-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "inv_n" .f32 0x38D1B717#32 ((10000⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S320000 : Shape := ⟨1, ![320000]⟩
abbrev S128x1024 : Shape := ⟨2, ![128, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg9 : FVec F S1024 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg6 : FVec F S1024 .f32) (main_arg7 : FVec F S1024x1024 .f32) (main_arg8 : FVec F S1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_v33

def fn {F : FTy → Type} [FloatOps F] (main_arg0 : FVec F S10000x128 .f32) (main_arg1 : IVec S2x320000 32) (main_arg2 : FVec F S320000 .f32) (main_arg3 : FVec F S128x1024 .f32) (main_arg4 : FVec F S1024 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x512 .f32) (main_arg12 : FVec F S512 .f32) (main_arg13 : FVec F S512x10 .f32) (main_arg14 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x1024 .f32 := Host.absf main_arg3
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_v13 main_v16
-- ==== Kernel.lean ====
abbrev S10000x128 : Shape := ⟨2, ![10000, 128]⟩
abbrev S2x320000 : Shape := ⟨2, ![2, 320000]⟩
abbrev S320000 : Shape := ⟨1, ![320000]⟩
abbrev S128x1024 : Shape := ⟨2, ![128, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S1x1024 : Shape := ⟨2, ![1, 1024]⟩
abbrev S1x512 : Shape := ⟨2, ![1, 512]⟩
abbrev S1x10 : Shape := ⟨2, ![1, 10]⟩
abbrev S10000x10 : Shape := ⟨2, ![10000, 10]⟩
abbrev S2000x128 : Shape := ⟨2, ![2000, 128]⟩
abbrev S2000x10 : Shape := ⟨2, ![2000, 10]⟩
abbrev S10000x1024 : Shape := ⟨2, ![10000, 1024]⟩
abbrev S8x1024 : Shape := ⟨2, ![8, 1024]⟩
abbrev S1000x128 : Shape := ⟨2, ![1000, 128]⟩
abbrev S1000x1024 : Shape := ⟨2, ![1000, 1024]⟩
abbrev S1000x512 : Shape := ⟨2, ![1000, 512]⟩
abbrev S1000x10 : Shape := ⟨2, ![1000, 10]⟩

abbrev nBuf : Space → Nat
  | .hbm => 22
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S128x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x512, .f32⟩
  | .hbm, ⟨12, _⟩ => ⟨S512, .f32⟩
  | .hbm, ⟨13, _⟩ => ⟨S512x10, .f32⟩
  | .hbm, ⟨14, _⟩ => ⟨S10, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x512, .f32⟩
  | .hbm, ⟨20, _⟩ => ⟨S1x10, .f32⟩
  | .hbm, ⟨21, _⟩ => ⟨S10000x10, .f32⟩
  | .local _ .vmem, ⟨0, _⟩ => ⟨S2000x128, .f32⟩
  | .local _ .vmem, ⟨1, _⟩ => ⟨S2000x128, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x512, .f32⟩
  | .local _ .vmem, ⟨9, _⟩ => ⟨S1x512, .f32⟩
  | .local _ .vmem, ⟨10, _⟩ => ⟨S512x10, .f32⟩
  | .local _ .vmem, ⟨11, _⟩ => ⟨S1x10, .f32⟩
  | .local _ .vmem, ⟨12, _⟩ => ⟨S2000x10, .f32⟩
  | .local _ .vmem, ⟨13, _⟩ => ⟨S2000x10, .f32⟩
  | .local _ .vmem, ⟨14, _⟩ => ⟨S10000x1024, .f32⟩
  | .local _ .vmem, ⟨15, _⟩ => ⟨S8x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![3, 5], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_14 : BitVec 32) : Fin 2 → Nat :=
  let arg1 : BitVec 32 := BitVec.ofNat 32 (i 1).val
  let c2000_i32 : BitVec 32 := 2000#32
  let v25 : BitVec 32 := Scalar.muli arg1 c2000_i32
  let v26 : BitVec 32 := Scalar.addi v25 c0_i32_14
  let v27 : Index := Scalar.indexCast v26
  let c0_15 : Index := 0#32
  ![v27.toNat, 0]
def k0_cond4 (i : grid0.Coords) : BitVec 1 :=
  let arg0 : BitVec 32 := BitVec.ofNat 32 (i 0).val
  let c1_i32_3 : BitVec 32 := 1#32
  let v8 : BitVec 1 := Scalar.cmpi .eq arg0 c1_i32_3
  let v9 : BitVec 32 := Scalar.extui v8
  let c0_i32_4 : BitVec 32 := 0#32
  let v10 : BitVec 1 := Scalar.cmpi .ne v9 c0_i32_4
  v10

def k0_off2 (i : grid0.Coords) (c0_i32_9 : BitVec 32) : Fin 2 → Nat :=
  let arg1 : BitVec 32 := BitVec.ofNat 32 (i 1).val
  let c2000_i32 : BitVec 32 := 2000#32
  let v19 : BitVec 32 := Scalar.muli arg1 c2000_i32
  let v20 : BitVec 32 := Scalar.addi v19 c0_i32_9
  let v21 : Index := Scalar.indexCast v20
  let c0 : Index := 0#32
  ![v21.toNat, 0]
def k0_cond6 (i : grid0.Coords) : BitVec 1 :=
  let arg0 : BitVec 32 := BitVec.ofNat 32 (i 0).val
  let c2_i32_7 : BitVec 32 := 2#32
  let v16 : BitVec 1 := Scalar.cmpi .eq arg0 c2_i32_7
  let v17 : BitVec 32 := Scalar.extui v16
  let c0_i32_8 : BitVec 32 := 0#32
  let v18 : BitVec 1 := Scalar.cmpi .ne v17 c0_i32_8
  v18

def k0_off3 (i : grid0.Coords) (c0_i32_9 : BitVec 32) : Fin 2 → Nat :=
  let arg1 : BitVec 32 := BitVec.ofNat 32 (i 1).val
  let c2000_i32 : BitVec 32 := 2000#32
  let v19 : BitVec 32 := Scalar.muli arg1 c2000_i32
  let v20 : BitVec 32 := Scalar.addi v19 c0_i32_9
  let v21 : Index := Scalar.indexCast v20
  let c0 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2000x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]
-- ==== KernelIdeal.lean ====
variable {F : FTy → Type} [FloatOps F] [Named F]
def κ : String → Option EReal := fun
  | "inv_n" => some ((10000⁻¹ : ℝ) : EReal)
  | _ => none
-- ==== ReferenceIdeal.lean ====
abbrev S10000x128 : Shape := ⟨2, ![10000, 128]⟩
abbrev S2x320000 : Shape := ⟨2, ![2, 320000]⟩
abbrev S320000 : Shape := ⟨1, ![320000]⟩
abbrev S128x1024 : Shape := ⟨2, ![128, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x10 : Shape := ⟨2, ![512, 10]⟩
abbrev S10 : Shape := ⟨1, ![10]⟩
abbrev S1x320000 : Shape := ⟨2, ![1, 320000]⟩
abbrev S_ : Shape := ⟨0, ![]⟩
abbrev S10000 : Shape := ⟨1, ![10000]⟩
abbrev S320000x1 : Shape := ⟨2, ![320000, 1]⟩
abbrev S330000 : Shape := ⟨1, ![330000]⟩
abbrev S10000x1024 : Shape := ⟨2, ![10000, 1024]⟩
abbrev S1x1024 : Shape := ⟨2, ![1, 1024]⟩
abbrev S10000x512 : Shape := ⟨2, ![10000, 512]⟩
abbrev S1x512 : Shape := ⟨2, ![1, 512]⟩
abbrev S10000x10 : Shape := ⟨2, ![10000, 10]⟩
abbrev S1x10 : Shape := ⟨2, ![1, 10]⟩

abbrev nBuf : Space → Nat
  | .hbm => 232
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S128x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x512, .f32⟩
  | 12 => ⟨S512, .f32⟩
  | 13 => ⟨S512x10, .f32⟩
  | 14 => ⟨S10, .f32⟩
  | 15 => ⟨S1x320000, .i32⟩
  | 16 => ⟨S320000, .i32⟩
  | 17 => ⟨S1x320000, .i32⟩
  | 18 => ⟨S320000, .i32⟩
  | 19 => ⟨S_, .f32⟩
  | 20 => ⟨S10000, .f32⟩
  | 21 => ⟨S320000x1, .i32⟩
  | 22 => ⟨S10000, .f32⟩
  | 23 => ⟨S_, .f32⟩
  | 24 => ⟨S10000, .f32⟩
  | 25 => ⟨S10000, .i1⟩
  | 26 => ⟨S_, .f32⟩
  | 27 => ⟨S_, .f32⟩
  | 28 => ⟨S10000, .f32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S_, .f32⟩
  | 37 => ⟨S_, .f32⟩
  | 38 => ⟨S10000, .f32⟩
  | 39 => ⟨S10000, .f32⟩
  | 40 => ⟨S_, .i32⟩
  | 41 => ⟨S320000, .i32⟩
  | 42 => ⟨S320000, .i1⟩
  | 43 => ⟨S_, .i32⟩
  | 44 => ⟨S320000, .i32⟩
  | 45 => ⟨S320000, .i32⟩
  | 46 => ⟨S320000, .i32⟩
  | 47 => ⟨S320000x1, .i32⟩
  | 48 => ⟨S320000, .f32⟩
  | 49 => ⟨S320000, .f32⟩
  | 50 => ⟨S320000, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000, .f32⟩
  | 60 => ⟨S320000, .f32⟩
  | 61 => ⟨S_, .f32⟩
  | 62 => ⟨S320000, .f32⟩
  | 63 => ⟨S320000, .f32⟩
  | 64 => ⟨S_, .f32⟩
  | 65 => ⟨S10000, .f32⟩
  | 66 => ⟨S330000, .f32⟩
  | 67 => ⟨S10000x1024, .f32⟩
  | 68 => ⟨S1x1024, .f32⟩
  | 69 => ⟨S10000x1024, .f32⟩
  | 70 => ⟨S10000x1024, .f32⟩
  | 71 => ⟨S_, .f32⟩
  | 72 => ⟨S1024, .f32⟩
  | 73 => ⟨S_, .f32⟩
  | 74 => ⟨S1024, .f32⟩
  | 75 => ⟨S1024, .f32⟩
  | 76 => ⟨S_, .i32⟩
  | 77 => ⟨S_, .f32⟩
  | 78 => ⟨S1024, .f32⟩
  | 79 => ⟨S1x1024, .f32⟩
  | 80 => ⟨S_, .f32⟩
  | 81 => ⟨S1x1024, .f32⟩
  | 82 => ⟨S1x1024, .f32⟩
  | 83 => ⟨S10000x1024, .f32⟩
  | 84 => ⟨S10000x1024, .f32⟩
  | 85 => ⟨S10000x1024, .f32⟩
  | 86 => ⟨S_, .f32⟩
  | 87 => ⟨S_, .f32⟩
  | 88 => ⟨S_, .f32⟩
  | 89 => ⟨S_, .f32⟩
  | 90 => ⟨S1024, .f32⟩
  | 91 => ⟨S1024, .f32⟩
  | 92 => ⟨S1024, .f32⟩
  | 93 => ⟨S_, .f32⟩
  | 94 => ⟨S_, .i1⟩
  | 95 => ⟨S_, .f32⟩
  | 96 => ⟨S_, .f32⟩
  | 97 => ⟨S1024, .f32⟩
  | 98 => ⟨S1024, .f32⟩
  | 99 => ⟨S1x1024, .f32⟩
  | 100 => ⟨S10000x1024, .f32⟩
  | 101 => ⟨S10000x1024, .f32⟩
  | 102 => ⟨S_, .f32⟩
  | 103 => ⟨S1024, .f32⟩
  | 104 => ⟨S1024, .f32⟩
  | 105 => ⟨S1024, .f32⟩
  | 106 => ⟨S1x1024, .f32⟩
  | 107 => ⟨S10000x1024, .f32⟩
  | 108 => ⟨S10000x1024, .f32⟩
  | 109 => ⟨S1x1024, .f32⟩
  | 110 => ⟨S10000x1024, .f32⟩
  | 111 => ⟨S10000x1024, .f32⟩
  | 112 => ⟨S1x1024, .f32⟩
  | 113 => ⟨S10000x1024, .f32⟩
  | 114 => ⟨S10000x1024, .f32⟩
  | 115 => ⟨S_, .f32⟩
  | 116 => ⟨S10000x1024, .f32⟩
  | 117 => ⟨S10000x1024, .f32⟩
  | 118 => ⟨S1x320000, .i32⟩
  | 119 => ⟨S320000, .i32⟩
  | 120 => ⟨S1x320000, .i32⟩
  | 121 => ⟨S320000, .i32⟩
  | 122 => ⟨S_, .f32⟩
  | 123 => ⟨S10000, .f32⟩
  | 124 => ⟨S320000x1, .i32⟩
  | 125 => ⟨S10000, .f32⟩
  | 126 => ⟨S_, .f32⟩
  | 127 => ⟨S10000, .f32⟩
  | _ => ⟨S10000x128, .f32⟩

abbrev hbmTy0_1 (i : Nat) : BufTy := match i % 128 with
  | 0 => ⟨S10000, .i1⟩
  | 1 => ⟨S_, .f32⟩
  | 2 => ⟨S_, .f32⟩
  | 3 => ⟨S10000, .f32⟩
  | 4 => ⟨S10000, .f32⟩
  | 5 => ⟨S_, .f32⟩
  | 6 => ⟨S10000, .f32⟩
  | 7 => ⟨S10000, .i1⟩
  | 8 => ⟨S_, .f32⟩
  | 9 => ⟨S10000, .f32⟩
  | 10 => ⟨S10000, .f32⟩
  | 11 => ⟨S_, .f32⟩
  | 12 => ⟨S_, .f32⟩
  | 13 => ⟨S10000, .f32⟩
  | 14 => ⟨S10000, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000, .f32⟩
  | 24 => ⟨S320000, .f32⟩
  | 25 => ⟨S320000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S320000, .f32⟩
  | 36 => ⟨S_, .f32⟩
  | 37 => ⟨S320000, .f32⟩
  | 38 => ⟨S320000, .f32⟩
  | 39 => ⟨S_, .f32⟩
  | 40 => ⟨S10000, .f32⟩
  | 41 => ⟨S330000, .f32⟩
  | 42 => ⟨S10000x1024, .f32⟩
  | 43 => ⟨S1x1024, .f32⟩
  | 44 => ⟨S10000x1024, .f32⟩
  | 45 => ⟨S10000x1024, .f32⟩
  | 46 => ⟨S_, .f32⟩
  | 47 => ⟨S1024, .f32⟩
  | 48 => ⟨S_, .f32⟩
  | 49 => ⟨S1024, .f32⟩
  | 50 => ⟨S1024, .f32⟩
  | 51 => ⟨S_, .i32⟩
  | 52 => ⟨S_, .f32⟩
  | 53 => ⟨S1024, .f32⟩
  | 54 => ⟨S1x1024, .f32⟩
  | 55 => ⟨S_, .f32⟩
  | 56 => ⟨S1x1024, .f32⟩
  | 57 => ⟨S1x1024, .f32⟩
  | 58 => ⟨S10000x1024, .f32⟩
  | 59 => ⟨S10000x1024, .f32⟩
  | 60 => ⟨S10000x1024, .f32⟩
  | 61 => ⟨S_, .f32⟩
  | 62 => ⟨S_, .f32⟩
  | 63 => ⟨S_, .f32⟩
  | 64 => ⟨S_, .f32⟩
  | 65 => ⟨S1024, .f32⟩
  | 66 => ⟨S1024, .f32⟩
  | 67 => ⟨S1024, .f32⟩
  | 68 => ⟨S_, .f32⟩
  | 69 => ⟨S_, .i1⟩
  | 70 => ⟨S_, .f32⟩
  | 71 => ⟨S_, .f32⟩
  | 72 => ⟨S1024, .f32⟩
  | 73 => ⟨S1024, .f32⟩
  | 74 => ⟨S1x1024, .f32⟩
  | 75 => ⟨S10000x1024, .f32⟩
  | 76 => ⟨S10000x1024, .f32⟩
  | 77 => ⟨S_, .f32⟩
  | 78 => ⟨S1024, .f32⟩
  | 79 => ⟨S1024, .f32⟩
  | 80 => ⟨S1024, .f32⟩
  | 81 => ⟨S1x1024, .f32⟩
  | 82 => ⟨S10000x1024, .f32⟩
  | 83 => ⟨S10000x1024, .f32⟩
  | 84 => ⟨S1x1024, .f32⟩
  | 85 => ⟨S10000x1024, .f32⟩
  | 86 => ⟨S10000x1024, .f32⟩
  | 87 => ⟨S1x1024, .f32⟩
  | 88 => ⟨S10000x1024, .f32⟩
  | 89 => ⟨S10000x1024, .f32⟩
  | 90 => ⟨S_, .f32⟩
  | 91 => ⟨S10000x1024, .f32⟩
  | 92 => ⟨S10000x1024, .f32⟩
  | 93 => ⟨S10000x512, .f32⟩
  | 94 => ⟨S1x512, .f32⟩
  | 95 => ⟨S10000x512, .f32⟩
  | 96 => ⟨S10000x512, .f32⟩
  | 97 => ⟨S_, .f32⟩
  | 98 => ⟨S10000x512, .f32⟩
  | 99 => ⟨S10000x512, .f32⟩
  | 100 => ⟨S10000x10, .f32⟩
  | 101 => ⟨S1x10, .f32⟩
  | 102 => ⟨S10000x10, .f32⟩
  | 103 => ⟨S10000x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_6 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_8 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_v40 : Ref sig .tc := ⟨.hbm, 72, rfl⟩
abbrev main_cst_11 : Ref sig .tc := ⟨.hbm, 73, rfl⟩
abbrev main_v41 : Ref sig .tc := ⟨.hbm, 74, rfl⟩
abbrev main_v42 : Ref sig .tc := ⟨.hbm, 75, rfl⟩
abbrev main_c_12 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_13 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_call3_cst : Ref sig .tc := ⟨.hbm, 115, rfl⟩
abbrev main_call3_v0 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_14 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_15 : Ref sig .tc := ⟨.hbm, 126, rfl⟩
abbrev main_v67 : Ref sig .tc := ⟨.hbm, 127, rfl⟩
abbrev main_v68 : Ref sig .tc := ⟨.hbm, 128, rfl⟩
abbrev main_cst_16 : Ref sig .tc := ⟨.hbm, 129, rfl⟩
abbrev main_call4_v0 : Ref sig .tc := ⟨.hbm, 130, rfl⟩
abbrev main_call4_v1 : Ref sig .tc := ⟨.hbm, 131, rfl⟩
abbrev main_v69 : Ref sig .tc := ⟨.hbm, 132, rfl⟩
abbrev main_cst_17 : Ref sig .tc := ⟨.hbm, 133, rfl⟩
abbrev main_v70 : Ref sig .tc := ⟨.hbm, 134, rfl⟩
abbrev main_v71 : Ref sig .tc := ⟨.hbm, 135, rfl⟩
abbrev main_cst_18 : Ref sig .tc := ⟨.hbm, 136, rfl⟩
abbrev main_v72 : Ref sig .tc := ⟨.hbm, 137, rfl⟩
abbrev main_v73 : Ref sig .tc := ⟨.hbm, 138, rfl⟩
abbrev main_cst_19 : Ref sig .tc := ⟨.hbm, 139, rfl⟩
abbrev main_call5_v0 : Ref sig .tc := ⟨.hbm, 140, rfl⟩
abbrev main_call5_v1 : Ref sig .tc := ⟨.hbm, 141, rfl⟩
abbrev main_v74 : Ref sig .tc := ⟨.hbm, 142, rfl⟩
abbrev main_c_20 : Ref sig .tc := ⟨.hbm, 143, rfl⟩
abbrev main_v75 : Ref sig .tc := ⟨.hbm, 144, rfl⟩
abbrev main_v76 : Ref sig .tc := ⟨.hbm, 145, rfl⟩
abbrev main_c_21 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_22 : Ref sig .tc := ⟨.hbm, 154, rfl⟩
abbrev main_v84 : Ref sig .tc := ⟨.hbm, 155, rfl⟩
abbrev main_v85 : Ref sig .tc := ⟨.hbm, 156, rfl⟩
abbrev main_c_23 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_24 : Ref sig .tc := ⟨.hbm, 164, rfl⟩
abbrev main_v92 : Ref sig .tc := ⟨.hbm, 165, rfl⟩
abbrev main_v93 : Ref sig .tc := ⟨.hbm, 166, rfl⟩
abbrev main_cst_25 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_26 : Ref sig .tc := ⟨.hbm, 174, rfl⟩
abbrev main_v100 : Ref sig .tc := ⟨.hbm, 175, rfl⟩
abbrev main_cst_27 : Ref sig .tc := ⟨.hbm, 176, rfl⟩
abbrev main_v101 : Ref sig .tc := ⟨.hbm, 177, rfl⟩
abbrev main_v102 : Ref sig .tc := ⟨.hbm, 178, rfl⟩
abbrev main_c_28 : Ref sig .tc := ⟨.hbm, 179, rfl⟩
abbrev main_call6_cst : Ref sig .tc := ⟨.hbm, 180, rfl⟩
abbrev main_call6_v0 : Ref sig .tc := ⟨.hbm, 181, rfl⟩
abbrev main_call6_v1 : Ref sig .tc := ⟨.hbm, 182, rfl⟩
abbrev main_call6_cst_0 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_call6_v5 : Ref sig .tc := ⟨.hbm, 187, rfl⟩
abbrev main_call6_v6 : Ref sig .tc := ⟨.hbm, 188, rfl⟩
abbrev main_call6_v7 : Ref sig .tc := ⟨.hbm, 189, rfl⟩
abbrev main_call6_cst_1 : Ref sig .tc := ⟨.hbm, 190, rfl⟩
abbrev main_call6_v8 : Ref sig .tc := ⟨.hbm, 191, rfl⟩
abbrev main_call6_cst_2 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_call6_cst_3 : Ref sig .tc := ⟨.hbm, 196, rfl⟩
abbrev main_call6_v12 : Ref sig .tc := ⟨.hbm, 197, rfl⟩
abbrev main_call6_cst_4 : Ref sig .tc := ⟨.hbm, 198, rfl⟩
abbrev main_call6_call0_v0 : Ref sig .tc := ⟨.hbm, 199, rfl⟩
abbrev main_call6_call0_v1 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_cst_29 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_call7_cst : Ref sig .tc := ⟨.hbm, 218, rfl⟩
abbrev main_call7_v0 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_call8_cst : Ref sig .tc := ⟨.hbm, 225, rfl⟩
abbrev main_call8_v0 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩

abbrev nD : Nat := 1
abbrev τ : Topo := Topo.v7x

variable {F : FTy → Type} [FloatOps F]
-- ==== Proof.FrameRun.lean ====
/-
  The frame of `Kernel`: the body, at each of its six kinds of grid point, run once from any contents of its
  scratch; nothing is recorded of what it leaves in the scratch or in the output window, so the output window is
  forgotten and the invariant between points is the class's own (`Pipeline.ΦA`).
-/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Claim

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions -/

/-- The condition «second coordinate zero» of the printed body. -/
abbrev condI (i : grid0.Coords) : BitVec 1 :=
  Scalar.cmpi .ne (Scalar.extui (Scalar.cmpi .eq (BitVec.ofNat 32 (i 1).val) 0#32) : BitVec 32) 0#32

/-- The condition «first coordinate `p`, second zero» of the printed body. -/
abbrev condFold (p : BitVec 32) (i : grid0.Coords) : BitVec 1 :=
  Scalar.cmpi .ne (Scalar.extui (Scalar.andi (Scalar.cmpi .eq (BitVec.ofNat 32 (i 0).val) p)
    (Scalar.cmpi .eq (BitVec.ofNat 32 (i 1).val) 0#32)) : BitVec 32) 0#32

/-- The six conditions of the body at a point of phase `p`, at the phase's first point or not. -/
structure Kind (i : grid0.Coords) (p : Nat) (z : Prop) : Prop where
  h1 : k0_cond1 i = 1#1 ↔ p = 0
  h2 : condI i = 1#1 ↔ z
  h3 : condFold 1#32 i = 1#1 ↔ (p = 1 ∧ z)
  h4 : k0_cond4 i = 1#1 ↔ p = 1
  h5 : condFold 2#32 i = 1#1 ↔ (p = 2 ∧ z)
  h6 : k0_cond6 i = 1#1 ↔ p = 2

/-- Every point is of one of the three phases, and first in its phase or not. -/
theorem kind (t : Fin grid0.N) : Kind (grid0.coords t) (t.val / 5) (t.val % 5 = 0) :=
  ⟨(by decide +kernel : ∀ t : Fin grid0.N, k0_cond1 (grid0.coords t) = 1#1 ↔ t.val / 5 = 0) t,
   (by decide +kernel : ∀ t : Fin grid0.N, condI (grid0.coords t) = 1#1 ↔ t.val % 5 = 0) t,
   (by decide +kernel : ∀ t : Fin grid0.N, condFold 1#32 (grid0.coords t) = 1#1 ↔ (t.val / 5 = 1 ∧ t.val % 5 = 0)) t,
   (by decide +kernel : ∀ t : Fin grid0.N, k0_cond4 (grid0.coords t) = 1#1 ↔ t.val / 5 = 1) t,
   (by decide +kernel : ∀ t : Fin grid0.N, condFold 2#32 (grid0.coords t) = 1#1 ↔ (t.val / 5 = 2 ∧ t.val % 5 = 0)) t,
   (by decide +kernel : ∀ t : Fin grid0.N, k0_cond6 (grid0.coords t) = 1#1 ↔ t.val / 5 = 2) t⟩

theorem phase_lt (t : Fin grid0.N) : t.val / 5 < 3 :=
  (by decide +kernel : ∀ t : Fin grid0.N, t.val / 5 < 3) t

/-! ## The body, run once per kind of point -/

/-- The body's triple: from the inputs' memrefs at their contents and the output's and the scratches' at anything,
    the body runs to its return and hands all of them back, the inputs unchanged. -/
theorem kernelRun (c : Dev nD) (i : grid0.Coords) (p : Nat) (hp : p < 3) (z : Prop) (hk : Kind i p z) (arg2 : Memref sig .tc .vmem S2000x128 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x10 .f32) (harg11 : arg11.IsWhole) (arg12 : Memref sig .tc .vmem S1x10 .f32) (harg12 : arg12.IsWhole) (arg13 : Memref sig .tc .vmem S2000x10 .f32) (harg13 : arg13.IsWhole) (arg14 : Memref sig .tc .vmem S10000x1024 .f32) (harg14 : arg14.IsWhole) (arg15 : Memref sig .tc .vmem S8x1024 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S8x1024 .f32) (harg18 : arg18.IsWhole)
    (x2 : Vec F S2000x128 .f32) (x3 : Vec F S128x1024 .f32) (x4 : Vec F S1x1024 .f32) (x5 : Vec F S1x1024 .f32) (x6 : Vec F S1024x1024 .f32) (x7 : Vec F S1x1024 .f32) (x8 : Vec F S1x1024 .f32) (x9 : Vec F S1024x512 .f32) (x10 : Vec F S1x512 .f32) (x11 : Vec F S512x10 .f32) (x12 : Vec F S1x10 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none c none) Set.univ
          (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨h1, h2, h3, h4, h5, h6⟩ := hk
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  subst hf2 hf3 hf4 hf5 hf6 hf7 hf8 hf9 hf10 hf11 hf12
  obtain rfl | rfl | rfl : p = 0 ∨ p = 1 ∨ p = 2 := by omega
  all_goals by_cases hz : z
  all_goals simp only [hz, and_true, and_false, iff_true, iff_false, reduceCtorEq, OfNat.ofNat_ne_zero, OfNat.zero_ne_ofNat,
    OfNat.ofNat_ne_one, OfNat.one_ne_ofNat, zero_ne_one, one_ne_zero, Nat.reduceEqDiff] at h1 h2 h3 h4 h5 h6
  all_goals (sl_exec (disch := first | sl_exact h1 | sl_exact h2 | sl_exact h3 | sl_exact h4 | sl_exact h5 | sl_exact h6); sl_step)
  all_goals iapply Hk
  all_goals (
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl)

/-! ## The proof data and the body obligation -/

/-- Only the output window is forgotten. -/
def forgets0 : Fin 12 → Bool := fun w => w.val == 11

/-- The proof data on core `c`: the arrays as the region finds them; after the body each input's buffer at its block
    and the output's unnamed; the class's invariant; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The class's invariant, conjunct by conjunct: each scratch owned at some contents, the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ d, owns (c : Thread nD τ) (st0_11 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq, after0_0, after0_1, after0_2, after0_3, after0_4, after0_5, after0_6, after0_7, after0_8, after0_9, after0_10]
  iintro ⟨⟨⟨HS0, HS1, HS2, HS3, HS4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (kernelRun c (grid0.coords t) (t.val / 5) (phase_lt t) (t.val % 5 = 0) (kind t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- Every weakly fair execution of @main terminates with the input arrays as the region found them and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m ρ}

/-- After the run every argument array holds what it held at launch. -/
theorem args_kept {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 1 rfl).trans ((A_eq m c 1).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (Pipeline.RDat.FramePost.arr_in h c 4 rfl).trans ((A_eq m c 4).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    (Pipeline.RDat.FramePost.arr_in h c 7 rfl).trans ((A_eq m c 7).trans (V_main_arg11 m c)),
    ((h c).2 main_arg12 (Pipeline.mem_restRefs_of main_arg12 (by decide) (by decide))).trans (V_main_arg12 m c),
    (Pipeline.RDat.FramePost.arr_in h c 9 rfl).trans ((A_eq m c 9).trans (V_main_arg13 m c)),
    ((h c).2 main_arg14 (Pipeline.mem_restRefs_of main_arg14 (by decide) (by decide))).trans (V_main_arg14 m c)⟩

variable (m ρ)

/-- THE FRAME: the run terminates with the argument arrays unchanged and every semaphore counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => args_kept h.1 c, h.2⟩) (run_main m ρ)

end Cert.Kernel.Hand

end
-- ==== Proof.Rows.lean ====
/- Blocks of whole rows of a two-axis array: reading `W` rows at row `o`, putting `W` rows at row `o`, and the loads and
   stores of a view at such a block. -/
module

public import Idealize.ShloMosaic.Lib.WritesUnit
public import Idealize.ShloMosaic.Lib.VecWindow
public import Idealize.ShloMosaic.Lib.Pointwise

@[expose] public section

noncomputable section

namespace Cert.Rows

open Idealize.ShloMosaic

variable {α : Type} {R W C : ℕ}

/-- The `W` rows of `x` from row `o`. -/
def rowsAt (x : (⟨2, ![R, C]⟩ : Shape).Idx → α) (o : ℕ) (h : o + W ≤ R) : (⟨2, ![W, C]⟩ : Shape).Idx → α :=
  fun y => x (ix2 ⟨o + (y 0).val, by have h0 : (y 0).val < W := (y 0).isLt; omega⟩ (y 1))

/-- `x` with the `W` rows from row `o` replaced by `w`. -/
def putRows (x : (⟨2, ![R, C]⟩ : Shape).Idx → α) (o : ℕ) (w : (⟨2, ![W, C]⟩ : Shape).Idx → α) : (⟨2, ![R, C]⟩ : Shape).Idx → α :=
  fun y => if h : o ≤ (y 0).val ∧ (y 0).val < o + W then w (ix2 ⟨(y 0).val - o, by omega⟩ (y 1)) else x y

theorem rowsAt_apply (x : (⟨2, ![R, C]⟩ : Shape).Idx → α) (o : ℕ) (h : o + W ≤ R) (r : Fin W) (k : Fin C) :
    rowsAt x o h (ix2 r k) = x (ix2 ⟨o + r.val, by omega⟩ k) := rfl

/-- A row inside the block put. -/
theorem putRows_in (x : (⟨2, ![R, C]⟩ : Shape).Idx → α) (o : ℕ) (w : (⟨2, ![W, C]⟩ : Shape).Idx → α) (r : Fin R) (k : Fin C)
    (h : o ≤ r.val ∧ r.val < o + W) : putRows x o w (ix2 r k) = w (ix2 ⟨r.val - o, by omega⟩ k) := dif_pos h

/-- A row outside the block put. -/
theorem putRows_out (x : (⟨2, ![R, C]⟩ : Shape).Idx → α) (o : ℕ) (w : (⟨2, ![W, C]⟩ : Shape).Idx → α) (r : Fin R) (k : Fin C)
    (h : ¬ (o ≤ r.val ∧ r.val < o + W)) : putRows x o w (ix2 r k) = x (ix2 r k) := dif_neg h

theorem putRows_pos (x : (⟨2, ![R, C]⟩ : Shape).Idx → α) (o : ℕ) (w : (⟨2, ![W, C]⟩ : Shape).Idx → α) (y : (⟨2, ![R, C]⟩ : Shape).Idx)
    (h : o ≤ (y 0).val ∧ (y 0).val < o + W) : putRows x o w y = w (ix2 ⟨(y 0).val - o, by omega⟩ (y 1)) := dif_pos h

theorem putRows_neg (x : (⟨2, ![R, C]⟩ : Shape).Idx → α) (o : ℕ) (w : (⟨2, ![W, C]⟩ : Shape).Idx → α) (y : (⟨2, ![R, C]⟩ : Shape).Idx)
    (h : ¬ (o ≤ (y 0).val ∧ (y 0).val < o + W)) : putRows x o w y = x y := dif_neg h

/-- A block read beside a block put. -/
theorem rowsAt_putRows {W' : ℕ} (x : (⟨2, ![R, C]⟩ : Shape).Idx → α) (o o' : ℕ) (w : (⟨2, ![W, C]⟩ : Shape).Idx → α) (h : o' + W' ≤ R)
    (hd : o + W ≤ o' ∨ o' + W' ≤ o) : rowsAt (putRows x o w) o' h = rowsAt x o' h := by
  funext y
  have h0 : (y 0).val < W' := (y 0).isLt
  exact dif_neg (by show ¬ (o ≤ o' + (y 0).val ∧ o' + (y 0).val < o + W); omega)

variable {sig : RefSig} {κ : Kind} {sp : Space} {e : EltTy} {Val : EltTy → Type}

/-- A load of whole rows. -/
theorem readAt_rows {off : Fin 2 → ℕ} (o : ℕ) (h : off = ![o, 0]) (ho : o + W ≤ R) (v : View sig κ sp ⟨2, ![R, C]⟩ e) (f : v.ty.Contents Val)
    (inb : ∀ a : Fin 2, off a + (⟨2, ![W, C]⟩ : Shape).size a ≤ (⟨2, ![R, C]⟩ : Shape).size a) :
    v.readAt Val (Rect.unit (s := ⟨2, ![R, C]⟩) off (⟨2, ![W, C]⟩ : Shape).size inb).toLoadRect f = rowsAt (W := W) (v.read Val f) o ho := by
  subst h
  funext y
  refine congrArg (v.read Val f) (funext fun a => Fin.ext ?_)
  match a with
  | ⟨0, _⟩ => show o + 1 * (y 0).val = o + (y 0).val; omega
  | ⟨1, _⟩ => show 0 + 1 * (y 1).val = (y 1).val; omega

/-- A load of whole rows over pieces alone. -/
theorem readCov_rows [∀ e, Nonempty (Val e)] {off : Fin 2 → ℕ} (o : ℕ) (h : off = ![o, 0]) (ho : o + W ≤ R) (v : View sig κ sp ⟨2, ![R, C]⟩ e)
    (inb : ∀ a : Fin 2, off a + (⟨2, ![W, C]⟩ : Shape).size a ≤ (⟨2, ![R, C]⟩ : Shape).size a) (L : List (View.Piece Val ⟨2, ![R, C]⟩ e)) :
    v.readCov L (Rect.unit (s := ⟨2, ![R, C]⟩) off (⟨2, ![W, C]⟩ : Shape).size inb).toLoadRect
      = rowsAt (W := W) (v.read Val (v.writes Val v.junk L)) o ho :=
  readAt_rows o h ho v _ inb

/-- A load of the whole array. -/
theorem readAt_all (v : View sig κ sp ⟨2, ![R, C]⟩ e) (f : v.ty.Contents Val)
    (inb : ∀ a : Fin 2, (![0, 0] : Fin 2 → ℕ) a + (![R, C] : Fin 2 → ℕ) a ≤ (⟨2, ![R, C]⟩ : Shape).size a) :
    v.readAt Val (Rect.unit (s := ⟨2, ![R, C]⟩) ![0, 0] ![R, C] inb).toLoadRect f = v.read Val f :=
  View.readAt_full v f inb

/-- A load of the whole array after a store of the whole array. -/
theorem readCov_all [∀ e, Nonempty (Val e)] (v : View sig κ sp ⟨2, ![R, C]⟩ e)
    (inb : ∀ a : Fin 2, (![0, 0] : Fin 2 → ℕ) a + (![R, C] : Fin 2 → ℕ) a ≤ (⟨2, ![R, C]⟩ : Shape).size a)
    (inb' : ∀ a : Fin 2, (![0, 0] : Fin 2 → ℕ) a + (![R, C] : Fin 2 → ℕ) a ≤ (⟨2, ![R, C]⟩ : Shape).size a)
    (w : (Rect.unit (s := ⟨2, ![R, C]⟩) ![0, 0] ![R, C] inb').shape.Idx → Val e) (L : List (View.Piece Val ⟨2, ![R, C]⟩ e)) :
    v.readCov (⟨Rect.unit (s := ⟨2, ![R, C]⟩) ![0, 0] ![R, C] inb', w⟩ :: L) (Rect.unit (s := ⟨2, ![R, C]⟩) ![0, 0] ![R, C] inb).toLoadRect = w :=
  View.readCov_full v inb inb' w L

/-- What a store of the whole array leaves. -/
theorem read_writes_all (v : View sig κ sp ⟨2, ![R, C]⟩ e) (f : v.ty.Contents Val)
    (inb : ∀ a : Fin 2, (![0, 0] : Fin 2 → ℕ) a + (![R, C] : Fin 2 → ℕ) a ≤ (⟨2, ![R, C]⟩ : Shape).size a)
    (w : (Rect.unit (s := ⟨2, ![R, C]⟩) ![0, 0] ![R, C] inb).shape.Idx → Val e) (L : List (View.Piece Val ⟨2, ![R, C]⟩ e)) :
    v.read Val (v.writes Val f (⟨Rect.unit (s := ⟨2, ![R, C]⟩) ![0, 0] ![R, C] inb, w⟩ :: L)) = w :=
  View.read_writes_full v f inb w L

/-- A store of whole rows, over any earlier stores. -/
theorem read_writes_rows {off : Fin 2 → ℕ} (o : ℕ) (h : off = ![o, 0]) (v : View sig κ sp ⟨2, ![R, C]⟩ e) (f : v.ty.Contents Val)
    (inb : ∀ a : Fin 2, off a + (⟨2, ![W, C]⟩ : Shape).size a ≤ (⟨2, ![R, C]⟩ : Shape).size a)
    (w : (Rect.unit (s := ⟨2, ![R, C]⟩) off (⟨2, ![W, C]⟩ : Shape).size inb).shape.Idx → Val e) (L : List (View.Piece Val ⟨2, ![R, C]⟩ e)) :
    v.read Val (v.writes Val f (⟨Rect.unit (s := ⟨2, ![R, C]⟩) off (⟨2, ![W, C]⟩ : Shape).size inb, w⟩ :: L))
      = putRows (W := W) (v.read Val (v.writes Val f L)) o w := by
  funext y
  by_cases hy : o ≤ (y 0).val ∧ (y 0).val < o + W
  · refine (View.read_writes_cons_unit_of_mem v f inb w L y (ix2 ⟨(y 0).val - o, by omega⟩ (y 1)) h fun a => ?_).trans (putRows_pos _ o w y hy).symm
    match a with
    | ⟨0, _⟩ => show (y 0).val = o + ((y 0).val - o); omega
    | ⟨1, _⟩ => show (y 1).val = 0 + (y 1).val; omega
  · refine (View.read_writes_cons_unit_of_not_mem v f inb w L y h 0 ?_).trans (putRows_neg _ o w y hy).symm
    show (y 0).val < o ∨ o + W ≤ (y 0).val
    omega

end Cert.Rows

end
-- ==== Proof.BodyRun.lean ====
/-
  The idealized kernel's body, run once at each of its six kinds of grid point: what it leaves in its scratch and in its
  output block, in terms of what it found there and of its input blocks (`Step`).
-/
module

public import proofs.«01_k».proof.Proof.Gen.KernelIdeal.Frame
public import proofs.«01_k».proof.Proof.Gen.KernelIdeal.Skeleton
public import proofs.«01_k».proof.Proof.Rows
public import Idealize.ShloMosaic.Lib.Pipeline.Frame
public import Idealize.ShloMosaic.Lib.Tactic
public import Idealize.ShloMosaic.Lib.Claim

@[expose] public section

noncomputable section

namespace Cert.KernelIdeal.Hand

open Cert.Rows
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The body's conditions -/

/-- The condition «second coordinate zero» of the printed body. -/
abbrev condI (i : grid0.Coords) : BitVec 1 :=
  Scalar.cmpi .ne (Scalar.extui (Scalar.cmpi .eq (BitVec.ofNat 32 (i 1).val) 0#32) : BitVec 32) 0#32

/-- The condition «first coordinate `p`, second zero» of the printed body. -/
abbrev condFold (p : BitVec 32) (i : grid0.Coords) : BitVec 1 :=
  Scalar.cmpi .ne (Scalar.extui (Scalar.andi (Scalar.cmpi .eq (BitVec.ofNat 32 (i 0).val) p)
    (Scalar.cmpi .eq (BitVec.ofNat 32 (i 1).val) 0#32)) : BitVec 32) 0#32

/-- The six conditions of the body at a point of phase `p`, at the phase's first point or not. -/
structure Kind (i : grid0.Coords) (p : Nat) (z : Prop) : Prop where
  h1 : k0_cond1 i = 1#1 ↔ p = 0
  h2 : condI i = 1#1 ↔ z
  h3 : condFold 1#32 i = 1#1 ↔ (p = 1 ∧ z)
  h4 : k0_cond4 i = 1#1 ↔ p = 1
  h5 : condFold 2#32 i = 1#1 ↔ (p = 2 ∧ z)
  h6 : k0_cond6 i = 1#1 ↔ p = 2

/-- Every point is of one of the three phases, and first in its phase or not. -/
theorem kind (t : Fin grid0.N) : Kind (grid0.coords t) (t.val / 5) (t.val % 5 = 0) :=
  ⟨(by decide +kernel : ∀ t : Fin grid0.N, k0_cond1 (grid0.coords t) = 1#1 ↔ t.val / 5 = 0) t,
   (by decide +kernel : ∀ t : Fin grid0.N, condI (grid0.coords t) = 1#1 ↔ t.val % 5 = 0) t,
   (by decide +kernel : ∀ t : Fin grid0.N, condFold 1#32 (grid0.coords t) = 1#1 ↔ (t.val / 5 = 1 ∧ t.val % 5 = 0)) t,
   (by decide +kernel : ∀ t : Fin grid0.N, k0_cond4 (grid0.coords t) = 1#1 ↔ t.val / 5 = 1) t,
   (by decide +kernel : ∀ t : Fin grid0.N, condFold 2#32 (grid0.coords t) = 1#1 ↔ (t.val / 5 = 2 ∧ t.val % 5 = 0)) t,
   (by decide +kernel : ∀ t : Fin grid0.N, k0_cond6 (grid0.coords t) = 1#1 ↔ t.val / 5 = 2) t⟩

theorem phase_lt (t : Fin grid0.N) : t.val / 5 < 3 :=
  (by decide +kernel : ∀ t : Fin grid0.N, t.val / 5 < 3) t

/-! ## What the body does -/

/-- The scale rows phase 1 works with: folded from the sums at the phase's first point, as found afterwards. -/
def scale1 (z : Prop) [Decidable z] (x4 : Vec F S1x1024 .f32) (x15 x16 : Vec F S8x1024 .f32) : Vec F S8x1024 .f32 :=
  if z then k0_pay7 x15 x16 x4 else x15

/-- The shift rows phase 1 works with. -/
def shift1 (z : Prop) [Decidable z] (x4 x5 : Vec F S1x1024 .f32) (x15 x16 : Vec F S8x1024 .f32) : Vec F S8x1024 .f32 :=
  if z then k0_pay8 x15 x16 x4 x5 else x16

/-- The scale rows phase 2 works with. -/
def scale2 (z : Prop) [Decidable z] (x7 : Vec F S1x1024 .f32) (x17 x18 : Vec F S8x1024 .f32) : Vec F S8x1024 .f32 :=
  if z then k0_pay13 x17 x18 x7 else x17

/-- The shift rows phase 2 works with. -/
def shift2 (z : Prop) [Decidable z] (x7 x8 : Vec F S1x1024 .f32) (x17 x18 : Vec F S8x1024 .f32) : Vec F S8x1024 .f32 :=
  if z then k0_pay14 x17 x18 x7 x8 else x18

/-- The body at a point of phase `p`, first in its phase or not (`z`), on the rows from `o`: the contents `y` it leaves from
    the contents `x` it finds. -/
structure Step (p : ℕ) (z : Prop) [Decidable z] (o : ℕ) (ho : o + 2000 ≤ 10000) (x2 : Vec F S2000x128 .f32) (x3 : Vec F S128x1024 .f32) (x4 : Vec F S1x1024 .f32) (x5 : Vec F S1x1024 .f32) (x6 : Vec F S1024x1024 .f32) (x7 : Vec F S1x1024 .f32) (x8 : Vec F S1x1024 .f32) (x9 : Vec F S1024x512 .f32) (x10 : Vec F S1x512 .f32) (x11 : Vec F S512x10 .f32) (x12 : Vec F S1x10 .f32) (x13 : Vec F S2000x10 .f32) (x14 : Vec F S10000x1024 .f32) (x15 : Vec F S8x1024 .f32) (x16 : Vec F S8x1024 .f32) (x17 : Vec F S8x1024 .f32) (x18 : Vec F S8x1024 .f32) (y13 : Vec F S2000x10 .f32) (y14 : Vec F S10000x1024 .f32) (y15 : Vec F S8x1024 .f32) (y16 : Vec F S8x1024 .f32) (y17 : Vec F S8x1024 .f32) (y18 : Vec F S8x1024 .f32) : Prop where
  hid0 : p = 0 → y14 = putRows (putRows x14 o (k0_pay19 (rowsAt x2 0 (by omega)) x3)) (o + 1000)
    (k0_pay2 (rowsAt x2 1000 (by omega)) x3 (constant S1000x1024 .f32 0x00000000#32))
  sum0 : p = 0 → y15 = k0_pay3 (rowsAt x2 1000 (by omega)) x3 (constant S1000x1024 .f32 0x00000000#32)
    (k0_pay20 (rowsAt x2 0 (by omega)) x3 (if z then k0_pay16 else x15))
  sq0 : p = 0 → y16 = k0_pay4 (rowsAt x2 1000 (by omega)) x3 (constant S1000x1024 .f32 0x00000000#32)
    (k0_pay21 (rowsAt x2 0 (by omega)) x3 (if z then k0_pay17 else x16))
  scale1 : p = 1 → y15 = scale1 z x4 x15 x16
  shift1 : p = 1 → y16 = shift1 z x4 x5 x15 x16
  hid1 : p = 1 → y14 = putRows (putRows x14 o
      (k0_pay23 (rowsAt x14 o (by omega)) (rowsAt y15 0 (by omega)) (rowsAt y16 0 (by omega)) x6)) (o + 1000)
      (k0_pay27 (rowsAt x14 (o + 1000) (by omega)) (rowsAt y15 0 (by omega)) (rowsAt y16 0 (by omega)) x6)
  sum1 : p = 1 → y17 = k0_pay28 (rowsAt x14 (o + 1000) (by omega)) (rowsAt y15 0 (by omega)) (rowsAt y16 0 (by omega)) x6
    (k0_pay24 (rowsAt x14 o (by omega)) (rowsAt y15 0 (by omega)) (rowsAt y16 0 (by omega)) x6 (if z then k0_pay9 else x17))
  sq1 : p = 1 → y18 = k0_pay29 (rowsAt x14 (o + 1000) (by omega)) (rowsAt y15 0 (by omega)) (rowsAt y16 0 (by omega)) x6
    (k0_pay25 (rowsAt x14 o (by omega)) (rowsAt y15 0 (by omega)) (rowsAt y16 0 (by omega)) x6 (if z then k0_pay10 else x18))
  scale2 : p = 2 → y17 = scale2 z x7 x17 x18
  shift2 : p = 2 → y18 = shift2 z x7 x8 x17 x18
  hid2 : p = 2 → y14 = x14
  out : p = 2 → y13 = putRows (putRows x13 0
      (k0_pay30 (rowsAt x14 o (by omega)) (rowsAt y17 0 (by omega)) (rowsAt y18 0 (by omega)) x9 x10 x11 x12)) 1000
      (k0_pay15 (rowsAt x14 (o + 1000) (by omega)) (k0_pay31 (rowsAt y17 0 (by omega))) (rowsAt y18 0 (by omega)) x9 x10 x11 x12)

set_option maxHeartbeats 1000000 in
/-- The body's triple: from the inputs', the output's and the scratches' memrefs at their contents the body runs to its
    return, the inputs unchanged and the others at contents `Step` relates to what was found. -/
theorem kernelRun (c : Dev nD) (i : grid0.Coords) (p : Nat) (hp : p < 3) (z : Prop) [Decidable z] (hk : Kind i p z)
    (ho : 2000 * (i 1).val + 2000 ≤ 10000) (arg2 : Memref sig .tc .vmem S2000x128 .f32) (harg2 : arg2.IsWhole) (arg3 : Memref sig .tc .vmem S128x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x512 .f32) (harg9 : arg9.IsWhole) (arg10 : Memref sig .tc .vmem S1x512 .f32) (harg10 : arg10.IsWhole) (arg11 : Memref sig .tc .vmem S512x10 .f32) (harg11 : arg11.IsWhole) (arg12 : Memref sig .tc .vmem S1x10 .f32) (harg12 : arg12.IsWhole) (arg13 : Memref sig .tc .vmem S2000x10 .f32) (harg13 : arg13.IsWhole) (arg14 : Memref sig .tc .vmem S10000x1024 .f32) (harg14 : arg14.IsWhole) (arg15 : Memref sig .tc .vmem S8x1024 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S8x1024 .f32) (harg18 : arg18.IsWhole)
    (x2 : Vec F S2000x128 .f32) (x3 : Vec F S128x1024 .f32) (x4 : Vec F S1x1024 .f32) (x5 : Vec F S1x1024 .f32) (x6 : Vec F S1024x1024 .f32) (x7 : Vec F S1x1024 .f32) (x8 : Vec F S1x1024 .f32) (x9 : Vec F S1024x512 .f32) (x10 : Vec F S1x512 .f32) (x11 : Vec F S512x10 .f32) (x12 : Vec F S1x10 .f32) (x13 : Vec F S2000x10 .f32) (x14 : Vec F S10000x1024 .f32) (x15 : Vec F S8x1024 .f32) (x16 : Vec F S8x1024 .f32) (x17 : Vec F S8x1024 .f32) (x18 : Vec F S8x1024 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18
        ∗ (iprop(∃ y13 y14 y15 y16 y17 y18, ⌜Step p z (2000 * (i 1).val) ho x2 x3 x4 x5 x6 x7 x8 x9 x10 x11 x12 x13 x14 x15 x16 x17 x18 y13 y14 y15 y16 y17 y18⌝ ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18) -∗ K ⟨⟩))
      ⊢ wp frame (wpE (defs₀ (F := F)) Variants.none c none) Set.univ
          (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have o10 : k0_off1 i 0#32 = ![2000 * (i 1).val, 0] := k0_off1_eq i 0
  have o11 : k0_off1 i 1000#32 = ![2000 * (i 1).val + 1000, 0] := k0_off1_eq i 1
  have o20 : k0_off2 i 0#32 = ![2000 * (i 1).val, 0] := k0_off2_eq i 0
  have o21 : k0_off2 i 1000#32 = ![2000 * (i 1).val + 1000, 0] := k0_off2_eq i 1
  have o30 : k0_off3 i 0#32 = ![2000 * (i 1).val, 0] := k0_off3_eq i 0
  have o31 : k0_off3 i 1000#32 = ![2000 * (i 1).val + 1000, 0] := k0_off3_eq i 1
  generalize hgo : 2000 * (i 1).val = o at *
  obtain ⟨h1, h2, h3, h4, h5, h6⟩ := hk
  simp only [cc0__fused_body_eq_skeleton]; unfold cc0__fused_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf2 hf3 hf4 hf5 hf6 hf7 hf8 hf9 hf10 hf11 hf12 hf13 hf14 hf15 hf16 hf17 hf18
  obtain rfl | rfl | rfl : p = 0 ∨ p = 1 ∨ p = 2 := by omega
  all_goals by_cases hz : z
  all_goals simp only [hz, and_true, and_false, iff_true, iff_false, reduceCtorEq, OfNat.ofNat_ne_zero, OfNat.zero_ne_ofNat,
    OfNat.ofNat_ne_one, OfNat.one_ne_ofNat, zero_ne_one, one_ne_zero, Nat.reduceEqDiff] at h1 h2 h3 h4 h5 h6
  all_goals (sl_exec (disch := first | sl_exact h1 | sl_exact h2 | sl_exact h3 | sl_exact h4 | sl_exact h5 | sl_exact h6); sl_step)
  all_goals iapply Hk
  all_goals (iexists _, _, _, _, _, _; isplitr; swap)
  rotate_left 1
  all_goals first
  | (
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    iexists _; isplitr; swap; · iexact H18
    ipureintro; rfl)
  | skip
  all_goals ipureintro
  all_goals sl_unfold_run_names
  all_goals constructor
  all_goals intro hp'
  all_goals first
    | exact absurd hp' (by decide)
    | (simp only [read_writes_rows (R := 10000) (W := 1000) (C := 1024) o o10, read_writes_rows (R := 10000) (W := 1000) (C := 1024) (o + 1000) o11,
        read_writes_rows (R := 10000) (W := 1000) (C := 1024) o o20, read_writes_rows (R := 10000) (W := 1000) (C := 1024) (o + 1000) o21,
        readAt_rows (R := 10000) (W := 1000) (C := 1024) o o20 (by omega), readAt_rows (R := 10000) (W := 1000) (C := 1024) (o + 1000) o21 (by omega),
        readAt_rows (R := 10000) (W := 1000) (C := 1024) o o30 (by omega), readAt_rows (R := 10000) (W := 1000) (C := 1024) (o + 1000) o31 (by omega),
        readAt_rows (R := 2000) (W := 1000) (C := 128) (off := ![0, 0]) 0 rfl (by omega), readAt_rows (R := 2000) (W := 1000) (C := 128) (off := ![1000, 0]) 1000 rfl (by omega),
        read_writes_rows (R := 2000) (W := 1000) (C := 10) (off := ![0, 0]) 0 rfl, read_writes_rows (R := 2000) (W := 1000) (C := 10) (off := ![1000, 0]) 1000 rfl,
        readAt_rows (R := 8) (W := 1) (C := 1024) (off := ![0, 0]) 0 rfl (by omega), readCov_rows (R := 8) (W := 1) (C := 1024) (off := ![0, 0]) 0 rfl (by omega),
        rowsAt_putRows _ o (o + 1000) _ _ (Or.inl le_rfl),
        read_writes_all, readAt_all, readCov_all, View.writes_nil, scale1, shift1, scale2, shift2, hz, if_true, if_false]
       try simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
       try with_reducible rfl)

end Cert.KernelIdeal.Hand

end
-- ==== Proof.Payloads.lean ====
/- The idealized kernel's payloads at the extended reals, as matrix products, activations and column sums. -/
module

public import proofs.«01_k».proof.Proof.Gen.KernelIdeal.Skeleton
public import Idealize.ShloMosaic.Lib.Pointwise

@[expose] public section

noncomputable section

namespace Cert.Net

open Idealize.ShloMosaic

variable {n K M : ℕ}

/-- The matrix product. -/
def lin (a : (⟨2, ![n, K]⟩ : Shape).Idx → EReal) (w : (⟨2, ![K, M]⟩ : Shape).Idx → EReal) : (⟨2, ![n, M]⟩ : Shape).Idx → EReal :=
  fun y => ∑ j : Fin K, a (ix2 (y 0) j) * w (ix2 j (y 1))

/-- A scale and a shift per column, then the positive part. -/
def act (h : (⟨2, ![n, K]⟩ : Shape).Idx → EReal) (s t : Fin K → EReal) : (⟨2, ![n, K]⟩ : Shape).Idx → EReal :=
  fun y => max (h y * s (y 1) + t (y 1)) 0

/-- The linear layer with a bias. -/
def linb (a : (⟨2, ![n, K]⟩ : Shape).Idx → EReal) (w : (⟨2, ![K, M]⟩ : Shape).Idx → EReal) (b : Fin M → EReal) : (⟨2, ![n, M]⟩ : Shape).Idx → EReal :=
  fun y => lin a w y + b (y 1)

/-- The positive part. -/
def relu (h : (⟨2, ![n, K]⟩ : Shape).Idx → EReal) : (⟨2, ![n, K]⟩ : Shape).Idx → EReal := fun y => max (h y) 0

/-- The two closing layers. -/
def head {A B : ℕ} (h : (⟨2, ![n, K]⟩ : Shape).Idx → EReal) (w : (⟨2, ![K, A]⟩ : Shape).Idx → EReal) (b : Fin A → EReal)
    (w' : (⟨2, ![A, B]⟩ : Shape).Idx → EReal) (b' : Fin B → EReal) : (⟨2, ![n, B]⟩ : Shape).Idx → EReal :=
  linb (relu (linb h w b)) w' b'

end Cert.Net

namespace Cert.KernelIdeal.Hand

open Cert.KernelIdeal Cert.KernelIdeal.Gen Cert.Net Idealize.ShloMosaic

/-- The one row of a one-row array. -/
abbrev row {C : ℕ} (x : (⟨2, ![1, C]⟩ : Shape).Idx → EReal) : Fin C → EReal := fun k => x (ix2 0 k)

/-- The mean, from a column's sum. -/
def meanOf (s : EReal) : EReal := s * Named.named (F := Ideal) κ "inv_n" (φ := .f32) 0x38D1B717#32

/-- The normalization's scale, from a column's sum and sum of squares and the layer's scale. -/
def scaleOf (s q g : EReal) : EReal :=
  g * Ideal.rsqrt (q * Named.named (F := Ideal) κ "inv_n" (φ := .f32) 0x38D1B717#32 - meanOf s * meanOf s + Ideal.ofBits .f32 0x3727C5AC#32)

/-- The normalization's shift. -/
def shiftOf (s q g b : EReal) : EReal := b - meanOf s * scaleOf s q g

/-- The first product, first half. -/
theorem pay19 (a : Vec Ideal S1000x128 .f32) (w : Vec Ideal S128x1024 .f32) :
    k0_pay19 (F := Ideal) a w = lin a w := by
  funext y
  pointwise [k0_pay19, k0_pay18, lin, act, linb, relu, Net.head, scaleOf, meanOf, shiftOf]

/-- The first product, second half. -/
theorem pay2 (a : Vec Ideal S1000x128 .f32) (w : Vec Ideal S128x1024 .f32) :
    k0_pay2 (F := Ideal) a w (constant S1000x1024 .f32 0x00000000#32) = lin a w := by
  funext y
  pointwise [k0_pay2, k0_pay1, lin, act, linb, relu, Net.head, scaleOf, meanOf, shiftOf]

/-- The column sums, first half. -/
theorem pay20 (a : Vec Ideal S1000x128 .f32) (w : Vec Ideal S128x1024 .f32) (u : Vec Ideal S8x1024 .f32) :
    k0_pay20 (F := Ideal) a w u = fun y => u y + ∑ r : Fin 1000, lin a w (ix2 r (y 1)) := by
  funext y
  pointwise [k0_pay20, k0_pay18, lin, act, linb, relu, Net.head, scaleOf, meanOf, shiftOf]

/-- The column sums of squares, first half. -/
theorem pay21 (a : Vec Ideal S1000x128 .f32) (w : Vec Ideal S128x1024 .f32) (u : Vec Ideal S8x1024 .f32) :
    k0_pay21 (F := Ideal) a w u = fun y => u y + ∑ r : Fin 1000, lin a w (ix2 r (y 1)) * lin a w (ix2 r (y 1)) := by
  funext y
  pointwise [k0_pay21, k0_pay18, lin, act, linb, relu, Net.head, scaleOf, meanOf, shiftOf]

/-- The column sums, second half. -/
theorem pay3 (a : Vec Ideal S1000x128 .f32) (w : Vec Ideal S128x1024 .f32) (u : Vec Ideal S8x1024 .f32) :
    k0_pay3 (F := Ideal) a w (constant S1000x1024 .f32 0x00000000#32) u = fun y => u y + ∑ r : Fin 1000, lin a w (ix2 r (y 1)) := by
  funext y
  pointwise [k0_pay3, k0_pay1, lin, act, linb, relu, Net.head, scaleOf, meanOf, shiftOf]

/-- The column sums of squares, second half. -/
theorem pay4 (a : Vec Ideal S1000x128 .f32) (w : Vec Ideal S128x1024 .f32) (u : Vec Ideal S8x1024 .f32) :
    k0_pay4 (F := Ideal) a w (constant S1000x1024 .f32 0x00000000#32) u = fun y => u y + ∑ r : Fin 1000, lin a w (ix2 r (y 1)) * lin a w (ix2 r (y 1)) := by
  funext y
  pointwise [k0_pay4, k0_pay1, lin, act, linb, relu, Net.head, scaleOf, meanOf, shiftOf]

/-- The second product, first half. -/
theorem pay23 (h : Vec Ideal S1000x1024 .f32) (s t : Vec Ideal S1x1024 .f32) (w : Vec Ideal S1024x1024 .f32) :
    k0_pay23 (F := Ideal) h s t w = lin (act h (row s) (row t)) w := by
  funext y
  pointwise [k0_pay23, k0_pay22, lin, act, linb, relu, Net.head, scaleOf, meanOf, shiftOf]

/-- The second product, second half. -/
theorem pay27 (h : Vec Ideal S1000x1024 .f32) (s t : Vec Ideal S1x1024 .f32) (w : Vec Ideal S1024x1024 .f32) :
    k0_pay27 (F := Ideal) h s t w = lin (act h (row s) (row t)) w := by
  funext y
  pointwise [k0_pay27, k0_pay26, lin, act, linb, relu, Net.head, scaleOf, meanOf, shiftOf]

/-- The second product's column sums, first half. -/
theorem pay24 (h : Vec Ideal S1000x1024 .f32) (s t : Vec Ideal S1x1024 .f32) (w : Vec Ideal S1024x1024 .f32) (u : Vec Ideal S8x1024 .f32) :
    k0_pay24 (F := Ideal) h s t w u = fun y => u y + ∑ r : Fin 1000, lin (act h (row s) (row t)) w (ix2 r (y 1)) := by
  funext y
  pointwise [k0_pay24, k0_pay22, lin, act, linb, relu, Net.head, scaleOf, meanOf, shiftOf]

/-- The second product's column sums of squares, first half. -/
theorem pay25 (h : Vec Ideal S1000x1024 .f32) (s t : Vec Ideal S1x1024 .f32) (w : Vec Ideal S1024x1024 .f32) (u : Vec Ideal S8x1024 .f32) :
    k0_pay25 (F := Ideal) h s t w u = fun y => u y + ∑ r : Fin 1000, lin (act h (row s) (row t)) w (ix2 r (y 1)) * lin (act h (row s) (row t)) w (ix2 r (y 1)) := by
  funext y
  pointwise [k0_pay25, k0_pay22, lin, act, linb, relu, Net.head, scaleOf, meanOf, shiftOf]

/-- The second product's column sums, second half. -/
theorem pay28 (h : Vec Ideal S1000x1024 .f32) (s t : Vec Ideal S1x1024 .f32) (w : Vec Ideal S1024x1024 .f32) (u : Vec Ideal S8x1024 .f32) :
    k0_pay28 (F := Ideal) h s t w u = fun y => u y + ∑ r : Fin 1000, lin (act h (row s) (row t)) w (ix2 r (y 1)) := by
  funext y
  pointwise [k0_pay28, k0_pay26, lin, act, linb, relu, Net.head, scaleOf, meanOf, shiftOf]

/-- The second product's column sums of squares, second half. -/
theorem pay29 (h : Vec Ideal S1000x1024 .f32) (s t : Vec Ideal S1x1024 .f32) (w : Vec Ideal S1024x1024 .f32) (u : Vec Ideal S8x1024 .f32) :
    k0_pay29 (F := Ideal) h s t w u = fun y => u y + ∑ r : Fin 1000, lin (act h (row s) (row t)) w (ix2 r (y 1)) * lin (act h (row s) (row t)) w (ix2 r (y 1)) := by
  funext y
  pointwise [k0_pay29, k0_pay26, lin, act, linb, relu, Net.head, scaleOf, meanOf, shiftOf]

/-- The zeroed accumulator. -/
theorem pay9  :
    k0_pay9 (F := Ideal) = fun _ => 0 := by
  funext y
  pointwise [k0_pay9]

/-- The zeroed accumulator. -/
theorem pay10  :
    k0_pay10 (F := Ideal) = fun _ => 0 := by
  funext y
  pointwise [k0_pay10]

/-- The zeroed accumulator. -/
theorem pay16  :
    k0_pay16 (F := Ideal) = fun _ => 0 := by
  funext y
  pointwise [k0_pay16]

/-- The zeroed accumulator. -/
theorem pay17  :
    k0_pay17 (F := Ideal) = fun _ => 0 := by
  funext y
  pointwise [k0_pay17]

/-- The first normalization's scale. -/
theorem pay7 (s q : Vec Ideal S8x1024 .f32) (g : Vec Ideal S1x1024 .f32) :
    k0_pay7 (F := Ideal) s q g = fun y => scaleOf (s y) (q y) (row g (y 1)) := by
  funext y
  pointwise [k0_pay7, k0_pay6, k0_pay5, lin, act, linb, relu, Net.head, scaleOf, meanOf, shiftOf]

/-- The first normalization's shift. -/
theorem pay8 (s q : Vec Ideal S8x1024 .f32) (g : Vec Ideal S1x1024 .f32) (b : Vec Ideal S1x1024 .f32) :
    k0_pay8 (F := Ideal) s q g b = fun y => shiftOf (s y) (q y) (row g (y 1)) (row b (y 1)) := by
  funext y
  pointwise [k0_pay8, k0_pay6, k0_pay5, lin, act, linb, relu, Net.head, scaleOf, meanOf, shiftOf]

/-- The second normalization's scale. -/
theorem pay13 (s q : Vec Ideal S8x1024 .f32) (g : Vec Ideal S1x1024 .f32) :
    k0_pay13 (F := Ideal) s q g = fun y => scaleOf (s y) (q y) (row g (y 1)) := by
  funext y
  pointwise [k0_pay13, k0_pay12, k0_pay11, lin, act, linb, relu, Net.head, scaleOf, meanOf, shiftOf]

/-- The second normalization's shift. -/
theorem pay14 (s q : Vec Ideal S8x1024 .f32) (g : Vec Ideal S1x1024 .f32) (b : Vec Ideal S1x1024 .f32) :
    k0_pay14 (F := Ideal) s q g b = fun y => shiftOf (s y) (q y) (row g (y 1)) (row b (y 1)) := by
  funext y
  pointwise [k0_pay14, k0_pay12, k0_pay11, lin, act, linb, relu, Net.head, scaleOf, meanOf, shiftOf]

/-- The result's first half. -/
theorem pay30 (h : Vec Ideal S1000x1024 .f32) (s t : Vec Ideal S1x1024 .f32) (w : Vec Ideal S1024x512 .f32) (b : Vec Ideal S1x512 .f32) (w' : Vec Ideal S512x10 .f32) (b' : Vec Ideal S1x10 .f32) :
    k0_pay30 (F := Ideal) h s t w b w' b' = Net.head (act h (row s) (row t)) w (row b) w' (row b') := by
  funext y
  pointwise [k0_pay30, lin, act, linb, relu, Net.head, scaleOf, meanOf, shiftOf]

/-- The result's second half. -/
theorem pay15 (h : Vec Ideal S1000x1024 .f32) (s t : Vec Ideal S1x1024 .f32) (w : Vec Ideal S1024x512 .f32) (b : Vec Ideal S1x512 .f32) (w' : Vec Ideal S512x10 .f32) (b' : Vec Ideal S1x10 .f32) :
    k0_pay15 (F := Ideal) h (k0_pay31 s) t w b w' b' = Net.head (act h (row s) (row t)) w (row b) w' (row b') := by
  funext y
  pointwise [k0_pay15, k0_pay31, lin, act, linb, relu, Net.head, scaleOf, meanOf, shiftOf]

end Cert.KernelIdeal.Hand

end
-- ==== Proof.Inv.lean ====
/- What the scratch holds between the grid's points, and what the result's blocks are, as functions of the inputs: the
   pure content of the kernel's run at the extended reals. -/
module

public import proofs.«01_k».proof.Proof.BodyRun
public import proofs.«01_k».proof.Proof.Payloads

@[expose] public section

noncomputable section

namespace Cert.KernelIdeal.Hand

open Cert.KernelIdeal Cert.KernelIdeal.Gen Cert.Net Cert.Rows Idealize.ShloMosaic

/-! ## Column sums over the first rows -/

/-- The sum of column `k` over the first `n` rows. -/
def colSum (H : S10000x1024.Idx → EReal) (n : ℕ) (k : Fin 1024) : EReal :=
  ∑ r ∈ Finset.range n, if h : r < 10000 then H (ix2 ⟨r, h⟩ k) else 0

/-- The sum of the squares of column `k` over the first `n` rows. -/
abbrev colSq (H : S10000x1024.Idx → EReal) (n : ℕ) (k : Fin 1024) : EReal := colSum (fun y => H y * H y) n k

theorem colSum_zero (H : S10000x1024.Idx → EReal) (k : Fin 1024) : colSum H 0 k = 0 := Finset.sum_range_zero _

/-- The sum over all rows. -/
theorem colSum_all (H : S10000x1024.Idx → EReal) (k : Fin 1024) : colSum H 10000 k = ∑ r : Fin 10000, H (ix2 r k) := by
  unfold colSum
  rw [Finset.sum_range]
  exact Finset.sum_congr rfl fun r _ => dif_pos r.isLt

/-- A thousand rows more. -/
theorem colSum_add (H : S10000x1024.Idx → EReal) (o : ℕ) (ho : o + 1000 ≤ 10000) (k : Fin 1024) :
    colSum H (o + 1000) k = colSum H o k + ∑ r : Fin 1000, (rowsAt (W := 1000) H o ho) (ix2 r k) := by
  unfold colSum
  rw [Finset.sum_range_add, Finset.sum_range (n := 1000)]
  refine congrArg _ (Finset.sum_congr rfl fun r _ => ?_)
  rw [dif_pos (by omega)]; rfl

/-- Two thousand rows more, a thousand at a time. -/
theorem colSum_add2 (H : S10000x1024.Idx → EReal) (o : ℕ) (ho : o + 2000 ≤ 10000) (k : Fin 1024) :
    colSum H (o + 2000) k = colSum H o k + ∑ r : Fin 1000, (rowsAt (W := 1000) H o (by omega)) (ix2 r k)
      + ∑ r : Fin 1000, (rowsAt (W := 1000) H (o + 1000) (by omega)) (ix2 r k) := by
  rw [← colSum_add H o (by omega) k, ← colSum_add H (o + 1000) (by omega) k]

/-! ## Rows written a block at a time -/

theorem putRows2_lt (x H : S10000x1024.Idx → EReal) (o : ℕ) (ho : o + 2000 ≤ 10000) (hx : ∀ (r : Fin 10000) (k : Fin 1024), r.val < o → x (ix2 r k) = H (ix2 r k))
    (r : Fin 10000) (k : Fin 1024) (hr : r.val < o + 2000) :
    putRows (putRows x o (rowsAt (W := 1000) H o (by omega))) (o + 1000) (rowsAt (W := 1000) H (o + 1000) (by omega)) (ix2 r k) = H (ix2 r k) := by
  by_cases h1 : o + 1000 ≤ r.val
  · rw [putRows_in _ _ _ _ _ ⟨h1, by omega⟩, rowsAt_apply]
    exact congrArg (fun i => H (ix2 i k)) (Fin.ext (by show o + 1000 + (r.val - (o + 1000)) = r.val; omega))
  · rw [putRows_out _ _ _ _ _ (fun h => h1 h.1)]
    by_cases h0 : o ≤ r.val
    · rw [putRows_in _ _ _ _ _ ⟨h0, by omega⟩, rowsAt_apply]
      exact congrArg (fun i => H (ix2 i k)) (Fin.ext (by show o + (r.val - o) = r.val; omega))
    · rw [putRows_out _ _ _ _ _ (fun h => h0 h.1)]
      exact hx r k (by omega)

theorem putRows2_ge (x : S10000x1024.Idx → EReal) (a b : S1000x1024.Idx → EReal) (o : ℕ)
    (r : Fin 10000) (k : Fin 1024) (hr : o + 2000 ≤ r.val) : putRows (putRows x o a) (o + 1000) b (ix2 r k) = x (ix2 r k) := by
  rw [putRows_out _ _ _ _ _ (by omega), putRows_out _ _ _ _ _ (by omega)]

/-! ## The network the kernel computes -/

/-- The inputs the kernel reads. -/
structure Inputs where
  X : S10000x128.Idx → EReal
  W1 : S128x1024.Idx → EReal
  g1 : S1x1024.Idx → EReal
  t1 : S1x1024.Idx → EReal
  W2 : S1024x1024.Idx → EReal
  g2 : S1x1024.Idx → EReal
  t2 : S1x1024.Idx → EReal
  fW : S1024x512.Idx → EReal
  fb : S1x512.Idx → EReal
  lW : S512x10.Idx → EReal
  lb : S1x10.Idx → EReal

namespace Inputs

variable (N : Inputs)

/-- The first hidden array before its normalization. -/
def H1 : S10000x1024.Idx → EReal := lin N.X N.W1
/-- The first normalization's scale and shift. -/
def s1 (k : Fin 1024) : EReal := scaleOf (colSum N.H1 10000 k) (colSq N.H1 10000 k) (row N.g1 k)
def r1 (k : Fin 1024) : EReal := shiftOf (colSum N.H1 10000 k) (colSq N.H1 10000 k) (row N.g1 k) (row N.t1 k)
/-- The second hidden array before its normalization. -/
def H2 : S10000x1024.Idx → EReal := lin (act N.H1 N.s1 N.r1) N.W2
/-- The second normalization's scale and shift. -/
def s2 (k : Fin 1024) : EReal := scaleOf (colSum N.H2 10000 k) (colSq N.H2 10000 k) (row N.g2 k)
def r2 (k : Fin 1024) : EReal := shiftOf (colSum N.H2 10000 k) (colSq N.H2 10000 k) (row N.g2 k) (row N.t2 k)
/-- The result. -/
def out : S10000x10.Idx → EReal := Net.head (act N.H2 N.s2 N.r2) N.fW (row N.fb) N.lW (row N.lb)

end Inputs

/-- The scratch before point `n`. -/
structure Inv (N : Inputs) (n : ℕ) (x14 : S10000x1024.Idx → EReal) (x15 x16 x17 x18 : S8x1024.Idx → EReal) : Prop where
  hid0 : n ≤ 5 → ∀ (r : Fin 10000) (k : Fin 1024), r.val < 2000 * n → x14 (ix2 r k) = N.H1 (ix2 r k)
  sum0 : n ≤ 5 → 0 < n → x15 = fun y => colSum N.H1 (2000 * n) (y 1)
  sq0 : n ≤ 5 → 0 < n → x16 = fun y => colSq N.H1 (2000 * n) (y 1)
  hid1 : 5 < n → n ≤ 10 → ∀ (r : Fin 10000) (k : Fin 1024), r.val < 2000 * (n - 5) → x14 (ix2 r k) = N.H2 (ix2 r k)
  old1 : 5 < n → n ≤ 10 → ∀ (r : Fin 10000) (k : Fin 1024), 2000 * (n - 5) ≤ r.val → x14 (ix2 r k) = N.H1 (ix2 r k)
  scale1 : 5 < n → n ≤ 10 → x15 = fun y => N.s1 (y 1)
  shift1 : 5 < n → n ≤ 10 → x16 = fun y => N.r1 (y 1)
  sum1 : 5 < n → n ≤ 10 → x17 = fun y => colSum N.H2 (2000 * (n - 5)) (y 1)
  sq1 : 5 < n → n ≤ 10 → x18 = fun y => colSq N.H2 (2000 * (n - 5)) (y 1)
  hid2 : 10 < n → x14 = N.H2
  scale2 : 10 < n → x17 = fun y => N.s2 (y 1)
  shift2 : 10 < n → x18 = fun y => N.r2 (y 1)

/-- At the start nothing is asked of the scratch. -/
theorem Inv.zero (N : Inputs) (x14 x15 x16 x17 x18) : Inv N 0 x14 x15 x16 x17 x18 :=
  ⟨fun _ r _ h => absurd h (by omega), fun _ h => absurd h (by omega), fun _ h => absurd h (by omega), fun h => absurd h (by omega), fun h => absurd h (by omega),
   fun h => absurd h (by omega), fun h => absurd h (by omega), fun h => absurd h (by omega), fun h => absurd h (by omega), fun h => absurd h (by omega),
   fun h => absurd h (by omega), fun h => absurd h (by omega)⟩

/-- Rows of a two-axis array that are equal entry by entry. -/
theorem ext2 {R C : ℕ} {f g : (⟨2, ![R, C]⟩ : Shape).Idx → EReal} (h : ∀ (r : Fin R) (k : Fin C), f (ix2 r k) = g (ix2 r k)) : f = g := by
  funext y; rw [eq_ix2 y]; exact h _ _

/-- The rows of a product are the product of the rows. -/
theorem lin_rowsAt {W n K M : ℕ} (a : (⟨2, ![n, K]⟩ : Shape).Idx → EReal) (w : (⟨2, ![K, M]⟩ : Shape).Idx → EReal) (o : ℕ) (h : o + W ≤ n) :
    lin (rowsAt a o h) w = rowsAt (lin a w) o h := rfl

theorem act_rowsAt {W n K : ℕ} (a : (⟨2, ![n, K]⟩ : Shape).Idx → EReal) (s t : Fin K → EReal) (o : ℕ) (h : o + W ≤ n) :
    act (rowsAt a o h) s t = rowsAt (act a s t) o h := rfl

theorem head_rowsAt {W n K A B : ℕ} (a : (⟨2, ![n, K]⟩ : Shape).Idx → EReal) (w : (⟨2, ![K, A]⟩ : Shape).Idx → EReal) (b : Fin A → EReal)
    (w' : (⟨2, ![A, B]⟩ : Shape).Idx → EReal) (b' : Fin B → EReal) (o : ℕ) (h : o + W ≤ n) :
    Net.head (rowsAt a o h) w b w' b' = rowsAt (Net.head a w b w' b') o h := rfl

end Cert.KernelIdeal.Hand

end
-- ==== Proof.InvStep.lean ====
/- A point of the grid takes the scratch's invariant before it to the invariant after it, and in the last phase leaves a
   block of the result: one lemma per phase, then the three together. -/
module

public import proofs.«01_k».proof.Proof.Inv

@[expose] public section

noncomputable section

namespace Cert.KernelIdeal.Hand

open Cert.KernelIdeal Cert.KernelIdeal.Gen Cert.Net Cert.Rows Idealize.ShloMosaic

/-- Rows of a block of rows. -/
theorem rowsAt_rowsAt {R W W' C : ℕ} (x : (⟨2, ![R, C]⟩ : Shape).Idx → EReal) (o o' : ℕ) (h : o + W ≤ R) (h' : o' + W' ≤ W) :
    rowsAt (W := W') (rowsAt (W := W) x o h) o' h' = rowsAt (W := W') x (o + o') (by omega) := by
  refine ext2 fun r k => ?_
  exact congrArg (fun i => x (ix2 i k)) (Fin.ext (by show o + (o' + r.val) = o + o' + r.val; omega))

/-- The first row of an array whose rows are all the same. -/
theorem row_rowsAt_const (f : Fin 1024 → EReal) (h : 0 + 1 ≤ 8) :
    row (rowsAt (W := 1) (fun y : S8x1024.Idx => f (y 1)) 0 h) = f := rfl

/-- A block of rows that agrees with another array there. -/
theorem rowsAt_eq_of {W : ℕ} {x H : S10000x1024.Idx → EReal} (o : ℕ) (h : o + W ≤ 10000)
    (hx : ∀ (r : Fin 10000) (k : Fin 1024), o ≤ r.val → x (ix2 r k) = H (ix2 r k)) : rowsAt (W := W) x o h = rowsAt (W := W) H o h :=
  ext2 fun r k => hx _ k (by show o ≤ o + r.val; omega)

/-- Adding two halves of a block to a column's sum. -/
theorem colSum_next (H : S10000x1024.Idx → EReal) {o : ℕ} (ho : o + 2000 ≤ 10000) (u : EReal) (k : Fin 1024) (hu : u = colSum H o k) :
    u + ∑ r, rowsAt (W := 1000) H o (by omega) (ix2 r k) + ∑ r, rowsAt (W := 1000) H (o + 1000) (by omega) (ix2 r k) = colSum H (o + 2000) k := by
  rw [hu]; exact (colSum_add2 H o ho k).symm

/-- The same of the squares. -/
theorem colSq_next (H : S10000x1024.Idx → EReal) {o : ℕ} (ho : o + 2000 ≤ 10000) (u : EReal) (k : Fin 1024) (hu : u = colSq H o k) :
    u + ∑ r, rowsAt (W := 1000) H o (by omega) (ix2 r k) * rowsAt (W := 1000) H o (by omega) (ix2 r k)
      + ∑ r, rowsAt (W := 1000) H (o + 1000) (by omega) (ix2 r k) * rowsAt (W := 1000) H (o + 1000) (by omega) (ix2 r k) = colSq H (o + 2000) k := by
  rw [hu]; exact (colSum_add2 (fun i => H i * H i) o ho k).symm

section

variable (N : Inputs) {p : ℕ} {z : Prop} [Decidable z] {n o : ℕ} {ho : o + 2000 ≤ 10000}
  {x2 : Vec Ideal S2000x128 .f32}
  {x3 : Vec Ideal S128x1024 .f32}
  {x4 x5 x7 x8 : Vec Ideal S1x1024 .f32}
  {x6 : Vec Ideal S1024x1024 .f32}
  {x9 : Vec Ideal S1024x512 .f32}
  {x10 : Vec Ideal S1x512 .f32}
  {x11 : Vec Ideal S512x10 .f32}
  {x12 : Vec Ideal S1x10 .f32}
  {x13 y13 : Vec Ideal S2000x10 .f32} {x14 y14 : Vec Ideal S10000x1024 .f32} {x15 x16 x17 x18 y15 y16 y17 y18 : Vec Ideal S8x1024 .f32}

/-- Phase 0. -/
theorem step0 (hp : p = 0) (hn : n < 5) (hz : z ↔ n = 0) (hon : o = 2000 * n) (hx2 : x2 = rowsAt N.X o ho) (hx3 : x3 = N.W1)
    (hI : Inv N n x14 x15 x16 x17 x18)
    (hS : Step p z o ho x2 x3 x4 x5 x6 x7 x8 x9 x10 x11 x12 x13 x14 x15 x16 x17 x18 y13 y14 y15 y16 y17 y18) : Inv N (n + 1) y14 y15 y16 y17 y18 := by
  have e0 : rowsAt (W := 1000) x2 0 (by omega) = rowsAt (W := 1000) N.X o (by omega) := by rw [hx2]; exact rowsAt_rowsAt _ _ _ _ _
  have e1 : rowsAt (W := 1000) x2 1000 (by omega) = rowsAt (W := 1000) N.X (o + 1000) (by omega) := by rw [hx2]; exact rowsAt_rowsAt _ _ _ _ _
  have h14 := hS.hid0 hp
  have h15 := hS.sum0 hp
  have h16 := hS.sq0 hp
  rw [pay19, pay2, e0, e1, hx3, lin_rowsAt, lin_rowsAt] at h14
  rw [pay3, pay20, e0, e1, hx3, lin_rowsAt, lin_rowsAt] at h15
  rw [pay4, pay21, e0, e1, hx3, lin_rowsAt, lin_rowsAt] at h16
  have hon' : 2000 * (n + 1) = o + 2000 := by omega
  refine ⟨fun _ r k hr => ?_, fun _ _ => ?_, fun _ _ => ?_, fun h => absurd h (by omega), fun h => absurd h (by omega), fun h => absurd h (by omega),
    fun h => absurd h (by omega), fun h => absurd h (by omega), fun h => absurd h (by omega), fun h => absurd h (by omega),
    fun h => absurd h (by omega), fun h => absurd h (by omega)⟩
  · rw [h14]
    exact putRows2_lt x14 N.H1 o ho (fun r k hr => hI.hid0 (by omega) r k (by omega)) r k (by omega)
  · rw [h15]; funext y
    rw [hon']
    have : (if z then k0_pay16 (F := Ideal) else x15) y = colSum N.H1 o (y 1) := by
      by_cases h : z
      · have : o = 0 := by have := hz.mp h; omega
        rw [if_pos h, pay16, this]; exact (colSum_zero _ _).symm
      · rw [if_neg h, hI.sum0 (by omega) (Nat.pos_of_ne_zero fun h0 => h (hz.mpr h0)), hon]
    exact colSum_next N.H1 ho _ (y 1) this
  · rw [h16]; funext y
    rw [hon']
    have : (if z then k0_pay17 (F := Ideal) else x16) y = colSq N.H1 o (y 1) := by
      by_cases h : z
      · have : o = 0 := by have := hz.mp h; omega
        rw [if_pos h, pay17, this]; exact (colSum_zero _ _).symm
      · rw [if_neg h, hI.sq0 (by omega) (Nat.pos_of_ne_zero fun h0 => h (hz.mpr h0)), hon]
    exact colSq_next N.H1 ho _ (y 1) this

/-- Phase 1. -/
theorem step1 (hp : p = 1) (hn : 5 ≤ n) (hn' : n < 10) (hz : z ↔ n = 5) (hon : o = 2000 * (n - 5)) (hx4 : x4 = N.g1) (hx5 : x5 = N.t1) (hx6 : x6 = N.W2)
    (hI : Inv N n x14 x15 x16 x17 x18)
    (hS : Step p z o ho x2 x3 x4 x5 x6 x7 x8 x9 x10 x11 x12 x13 x14 x15 x16 x17 x18 y13 y14 y15 y16 y17 y18) : Inv N (n + 1) y14 y15 y16 y17 y18 := by
  have h15 : y15 = fun y => N.s1 (y 1) := by
    rw [hS.scale1 hp, scale1]
    by_cases h : z
    · have h5 := hz.mp h
      rw [if_pos h, pay7, hI.sum0 (by omega) (by omega), hI.sq0 (by omega) (by omega), hx4, h5]; rfl
    · rw [if_neg h]
      have h5 : n ≠ 5 := fun h0 => h (hz.mpr h0)
      exact hI.scale1 (by omega) (by omega)
  have h16 : y16 = fun y => N.r1 (y 1) := by
    rw [hS.shift1 hp, shift1]
    by_cases h : z
    · have h5 := hz.mp h
      rw [if_pos h, pay8, hI.sum0 (by omega) (by omega), hI.sq0 (by omega) (by omega), hx4, hx5, h5]; rfl
    · rw [if_neg h]
      have h5 : n ≠ 5 := fun h0 => h (hz.mpr h0)
      exact hI.shift1 (by omega) (by omega)
  have hold : ∀ (r : Fin 10000) (k : Fin 1024), o ≤ r.val → x14 (ix2 r k) = N.H1 (ix2 r k) := fun r k hr => by
    by_cases h5 : n = 5
    · exact hI.hid0 (by omega) r k (by have := r.isLt; omega)
    · exact hI.old1 (by omega) (by omega) r k (by omega)
  have e0 : rowsAt (W := 1000) x14 o (by omega) = rowsAt (W := 1000) N.H1 o (by omega) := rowsAt_eq_of _ _ hold
  have e1 : rowsAt (W := 1000) x14 (o + 1000) (by omega) = rowsAt (W := 1000) N.H1 (o + 1000) (by omega) :=
    rowsAt_eq_of _ _ fun r k hr => hold r k (by omega)
  have h14 := hS.hid1 hp
  have h17 := hS.sum1 hp
  have h18 := hS.sq1 hp
  rw [pay23, pay27, e0, e1, hx6, h15, h16, row_rowsAt_const, row_rowsAt_const, act_rowsAt, act_rowsAt, lin_rowsAt, lin_rowsAt] at h14
  rw [pay28, pay24, e0, e1, hx6, h15, h16, row_rowsAt_const, row_rowsAt_const, act_rowsAt, act_rowsAt, lin_rowsAt, lin_rowsAt] at h17
  rw [pay29, pay25, e0, e1, hx6, h15, h16, row_rowsAt_const, row_rowsAt_const, act_rowsAt, act_rowsAt, lin_rowsAt, lin_rowsAt] at h18
  have hon' : 2000 * (n + 1 - 5) = o + 2000 := by omega
  refine ⟨fun h => absurd h (by omega), fun h => absurd h (by omega), fun h => absurd h (by omega), fun _ _ r k hr => ?_, fun _ _ r k hr => ?_,
    fun _ _ => h15, fun _ _ => h16, fun _ _ => ?_, fun _ _ => ?_, fun h => absurd h (by omega), fun h => absurd h (by omega), fun h => absurd h (by omega)⟩
  · rw [h14]
    refine putRows2_lt x14 N.H2 o ho (fun r k hr => ?_) r k (by omega)
    exact hI.hid1 (by omega) (by omega) r k (by omega)
  · rw [h14, putRows2_ge _ _ _ _ _ _ (by omega)]
    exact hold r k (by omega)
  · rw [h17]; funext y
    rw [hon']
    have : (if z then k0_pay9 (F := Ideal) else x17) y = colSum N.H2 o (y 1) := by
      by_cases h : z
      · have : o = 0 := by have := hz.mp h; omega
        rw [if_pos h, pay9, this]; exact (colSum_zero _ _).symm
      · have h5 : n ≠ 5 := fun h0 => h (hz.mpr h0)
        rw [if_neg h, hI.sum1 (by omega) (by omega), hon]
    exact colSum_next N.H2 ho _ (y 1) this
  · rw [h18]; funext y
    rw [hon']
    have : (if z then k0_pay10 (F := Ideal) else x18) y = colSq N.H2 o (y 1) := by
      by_cases h : z
      · have : o = 0 := by have := hz.mp h; omega
        rw [if_pos h, pay10, this]; exact (colSum_zero _ _).symm
      · have h5 : n ≠ 5 := fun h0 => h (hz.mpr h0)
        rw [if_neg h, hI.sq1 (by omega) (by omega), hon]
    exact colSq_next N.H2 ho _ (y 1) this

/-- Phase 2: the invariant, and the block of the result. -/
theorem step2 (hp : p = 2) (hn : 10 ≤ n) (hz : z ↔ n = 10) (hx7 : x7 = N.g2) (hx8 : x8 = N.t2) (hx9 : x9 = N.fW) (hx10 : x10 = N.fb)
    (hx11 : x11 = N.lW) (hx12 : x12 = N.lb)
    (hI : Inv N n x14 x15 x16 x17 x18)
    (hS : Step p z o ho x2 x3 x4 x5 x6 x7 x8 x9 x10 x11 x12 x13 x14 x15 x16 x17 x18 y13 y14 y15 y16 y17 y18) : Inv N (n + 1) y14 y15 y16 y17 y18 ∧ y13 = rowsAt N.out o ho := by
  have h17 : y17 = fun y => N.s2 (y 1) := by
    rw [hS.scale2 hp, scale2]
    by_cases h : z
    · have h5 := hz.mp h
      rw [if_pos h, pay13, hI.sum1 (by omega) (by omega), hI.sq1 (by omega) (by omega), hx7, h5]; rfl
    · rw [if_neg h]
      have h5 : n ≠ 10 := fun h0 => h (hz.mpr h0)
      exact hI.scale2 (by omega)
  have h18 : y18 = fun y => N.r2 (y 1) := by
    rw [hS.shift2 hp, shift2]
    by_cases h : z
    · have h5 := hz.mp h
      rw [if_pos h, pay14, hI.sum1 (by omega) (by omega), hI.sq1 (by omega) (by omega), hx7, hx8, h5]; rfl
    · rw [if_neg h]
      have h5 : n ≠ 10 := fun h0 => h (hz.mpr h0)
      exact hI.shift2 (by omega)
  have hx14 : x14 = N.H2 := by
    by_cases h5 : n = 10
    · exact ext2 fun r k => hI.hid1 (by omega) (by omega) r k (by have := r.isLt; omega)
    · exact hI.hid2 (by omega)
  have h14 : y14 = N.H2 := (hS.hid2 hp).trans hx14
  refine ⟨⟨fun h => absurd h (by omega), fun h => absurd h (by omega), fun h => absurd h (by omega), fun _ h => absurd h (by omega), fun _ h => absurd h (by omega),
    fun _ h => absurd h (by omega), fun _ h => absurd h (by omega), fun _ h => absurd h (by omega), fun _ h => absurd h (by omega), fun _ => h14, fun _ => h17, fun _ => h18⟩, ?_⟩
  have h13 := hS.out hp
  rw [pay30, pay15, hx14, hx9, hx10, hx11, hx12, h17, h18, row_rowsAt_const, row_rowsAt_const, act_rowsAt, act_rowsAt, head_rowsAt, head_rowsAt] at h13
  rw [h13]
  refine ext2 fun r k => ?_
  by_cases h1 : 1000 ≤ r.val
  · rw [putRows_in _ _ _ _ _ ⟨h1, by have := r.isLt; omega⟩, rowsAt_apply]
    exact congrArg (fun i => N.out (ix2 i k)) (Fin.ext (by show o + 1000 + (r.val - 1000) = o + r.val; omega))
  · rw [putRows_out _ _ _ _ _ (fun h => h1 h.1), putRows_in _ _ _ _ _ ⟨Nat.zero_le _, by omega⟩, rowsAt_apply]
    rfl

/-- The three phases together: a point takes the invariant to the next, and from point 10 on leaves a block of the result. -/
theorem Inv.step (hn : n < 15) {ho : 2000 * (n % 5) + 2000 ≤ 10000} (hx2 : n < 5 → x2 = rowsAt N.X (2000 * (n % 5)) ho) (hx3 : x3 = N.W1) (hx4 : x4 = N.g1)
    (hx5 : x5 = N.t1) (hx6 : x6 = N.W2) (hx7 : x7 = N.g2) (hx8 : x8 = N.t2) (hx9 : x9 = N.fW) (hx10 : x10 = N.fb) (hx11 : x11 = N.lW) (hx12 : x12 = N.lb)
    (hI : Inv N n x14 x15 x16 x17 x18)
    (hS : Step (n / 5) (n % 5 = 0) (2000 * (n % 5)) ho x2 x3 x4 x5 x6 x7 x8 x9 x10 x11 x12 x13 x14 x15 x16 x17 x18 y13 y14 y15 y16 y17 y18) :
    Inv N (n + 1) y14 y15 y16 y17 y18 ∧ (10 ≤ n → y13 = rowsAt N.out (2000 * (n % 5)) ho) := by
  rcases (by omega : n < 5 ∨ (5 ≤ n ∧ n < 10) ∨ 10 ≤ n) with h | ⟨h, h'⟩ | h
  · exact ⟨step0 N (by omega) h (by omega) (by omega) (hx2 h) hx3 hI hS, fun h' => absurd h' (by omega)⟩
  · exact ⟨step1 N (by omega) h h' (by omega) (by omega) hx4 hx5 hx6 hI hS, fun h' => absurd h' (by omega)⟩
  · have := step2 N (by omega) h (by omega) hx7 hx8 hx9 hx10 hx11 hx12 hI hS
    exact ⟨this.1, fun _ => this.2⟩

end

end Cert.KernelIdeal.Hand

end
-- ==== Proof.Blocks.lean ====
/- The windows' blocks of the launched arrays, and the kernel's inputs as the region finds them. -/
module

public import proofs.«01_k».proof.Proof.Inv
public import proofs.«01_k».proof.Proof.Gen.KernelIdeal.Frame
public import Idealize.ShloMosaic.Lib.Pipeline.ValueKit

@[expose] public section

noncomputable section

namespace Cert.KernelIdeal.Hand

open Cert.KernelIdeal Cert.KernelIdeal.Gen Cert.Net Cert.Rows Idealize.ShloMosaic

variable (m : (ℓ : Loc nD τ sig) → Buf (Elt Ideal) ℓ)

/-- The kernel's inputs on core `c`, as the region finds them. -/
def inputsOf (c : Dev nD) : Inputs where
  X := V m c main_arg0
  W1 := V m c main_arg3
  g1 := V m c main_v0
  t1 := V m c main_v1
  W2 := V m c main_arg7
  g2 := V m c main_v2
  t2 := V m c main_v3
  fW := V m c main_arg11
  fb := V m c main_v4
  lW := V m c main_arg13
  lb := V m c main_v5

/-- The second grid coordinate. -/
theorem coords_1 (t : Fin grid0.N) : (grid0.coords t 1).val = t.val % 5 :=
  (by decide +kernel : ∀ t : Fin grid0.N, (grid0.coords t 1).val = t.val % 5) t

/-- The feature window's index in the first phase. -/
theorem index_0 (t : Fin cfg0.N) (h : t.val < 5) : (cfg0.win 0).index t = ![t.val % 5, 0] :=
  (by decide +kernel : ∀ t : Fin cfg0.N, t.val < 5 → (cfg0.win 0).index t = ![t.val % 5, 0]) t h

/-- Every other input window is its whole array at every point. -/
theorem iblk_1 (c : Dev nD) (t : Fin cfg0.N) : iblk m c 1 t = (inputsOf m c).W1 := by
  have e : win0_1.index t = ![0, 0] := rfl
  funext y
  unfold inputsOf
  blk_ext [iblk, e]

theorem iblk_2 (c : Dev nD) (t : Fin cfg0.N) : iblk m c 2 t = (inputsOf m c).g1 := by
  have e : win0_2.index t = ![0, 0] := rfl
  funext y
  unfold inputsOf
  blk_ext [iblk, e]

theorem iblk_3 (c : Dev nD) (t : Fin cfg0.N) : iblk m c 3 t = (inputsOf m c).t1 := by
  have e : win0_3.index t = ![0, 0] := rfl
  funext y
  unfold inputsOf
  blk_ext [iblk, e]

theorem iblk_4 (c : Dev nD) (t : Fin cfg0.N) : iblk m c 4 t = (inputsOf m c).W2 := by
  have e : win0_4.index t = ![0, 0] := rfl
  funext y
  unfold inputsOf
  blk_ext [iblk, e]

theorem iblk_5 (c : Dev nD) (t : Fin cfg0.N) : iblk m c 5 t = (inputsOf m c).g2 := by
  have e : win0_5.index t = ![0, 0] := rfl
  funext y
  unfold inputsOf
  blk_ext [iblk, e]

theorem iblk_6 (c : Dev nD) (t : Fin cfg0.N) : iblk m c 6 t = (inputsOf m c).t2 := by
  have e : win0_6.index t = ![0, 0] := rfl
  funext y
  unfold inputsOf
  blk_ext [iblk, e]

theorem iblk_7 (c : Dev nD) (t : Fin cfg0.N) : iblk m c 7 t = (inputsOf m c).fW := by
  have e : win0_7.index t = ![0, 0] := rfl
  funext y
  unfold inputsOf
  blk_ext [iblk, e]

theorem iblk_8 (c : Dev nD) (t : Fin cfg0.N) : iblk m c 8 t = (inputsOf m c).fb := by
  have e : win0_8.index t = ![0, 0] := rfl
  funext y
  unfold inputsOf
  blk_ext [iblk, e]

theorem iblk_9 (c : Dev nD) (t : Fin cfg0.N) : iblk m c 9 t = (inputsOf m c).lW := by
  have e : win0_9.index t = ![0, 0] := rfl
  funext y
  unfold inputsOf
  blk_ext [iblk, e]

theorem iblk_10 (c : Dev nD) (t : Fin cfg0.N) : iblk m c 10 t = (inputsOf m c).lb := by
  have e : win0_10.index t = ![0, 0] := rfl
  funext y
  unfold inputsOf
  blk_ext [iblk, e]

theorem iblk_0 (c : Dev nD) (t : Fin cfg0.N) (h : t.val < 5) (ho : 2000 * (t.val % 5) + 2000 ≤ 10000) :
    iblk m c 0 t = rowsAt (W := 2000) (inputsOf m c).X (2000 * (t.val % 5)) ho := by
  funext y
  unfold inputsOf rowsAt
  blk_ext [iblk, index_0 t h]

/-- The output window's index. -/
theorem index_11 (t : Fin cfg0.N) : win0_11.index t = ![t.val % 5, 0] :=
  (by decide +kernel : ∀ t : Fin cfg0.N, win0_11.index t = ![t.val % 5, 0]) t

theorem flush_11 (t : Fin cfg0.N) : (cfg0.win 11).flush t = true :=
  (by decide +kernel : ∀ t : Fin cfg0.N, (cfg0.win 11).flush t = true) t

/-- After `10 + k` points whose last `k` left the blocks of `G` in turn, the output array holds the first `k` blocks of `G`. -/
theorem arrAt_rows {c : Dev nD} (dat : Pipeline.Dat τ (Elt Ideal) Unit ℕ (UR sig nD τ) ℕ cfg0 c) (G : S10000x10.Idx → EReal)
    (hG : ∀ (t : Fin cfg0.N) (ho : 2000 * (t.val % 5) + 2000 ≤ 10000), 10 ≤ t.val → dat.after 11 t = rowsAt (W := 2000) G (2000 * (t.val % 5)) ho) :
    ∀ k : ℕ, k ≤ 5 → ∀ i : S10000x10.Idx, (i 0).val < 2000 * k → dat.arrAt 11 (10 + k) i = G i
  | 0, _, i, hi => absurd hi (by omega)
  | k + 1, hk, i, hi => by
    have h15 : 10 + k < cfg0.N := by show 10 + k < 15; omega
    rw [show 10 + (k + 1) = (10 + k) + 1 from rfl, dat.arrAt_succ_apply, dif_pos h15, if_pos (flush_11 _)]
    by_cases hm : i ∈ ((cfg0.win 11).blk ⟨10 + k, h15⟩).view.set
    · obtain ⟨y, rfl⟩ := View.exists_emb_of_mem_set _ hm
      rw [View.write_emb_of_mem _ _ (Finset.mem_univ y)]
      have ho : 2000 * ((10 + k) % 5) + 2000 ≤ 10000 := by omega
      show dat.after 11 ⟨10 + k, h15⟩ ((cfg0.win 11).xinj (cfg0.grid.coords ⟨10 + k, h15⟩) y) = _
      rw [hG ⟨10 + k, h15⟩ ho (by show 10 ≤ 10 + k; omega)]
      unfold rowsAt
      blk_ext [index_11]
    · rw [View.write_of_not_mem _ _ _ (by rwa [View.setOn_univ])]
      refine arrAt_rows dat G hG k (by omega) i ?_
      by_contra hlt
      refine hm ?_
      mem_blk [index_11]
      have h0 : (i 0).val < 10000 := (i 0).isLt
      have h1 : (i 1).val < 10 := (i 1).isLt
      have hv : (10 + k) % 5 = k := by omega
      dsimp only
      rw [hv]
      omega

/-- So after the run the output array is `G`. -/
theorem arrAt_out {c : Dev nD} (dat : Pipeline.Dat τ (Elt Ideal) Unit ℕ (UR sig nD τ) ℕ cfg0 c) (G : S10000x10.Idx → EReal)
    (hG : ∀ (t : Fin cfg0.N) (ho : 2000 * (t.val % 5) + 2000 ≤ 10000), 10 ≤ t.val → dat.after 11 t = rowsAt (W := 2000) G (2000 * (t.val % 5)) ho) :
    dat.arrAt 11 cfg0.N = G :=
  funext fun i => arrAt_rows dat G hG 5 le_rfl i (show (i 0).val < 10000 from (i 0).isLt)

end Cert.KernelIdeal.Hand

end
-- ==== Proof.ValueRun.lean ====
/- The run of the idealized kernel with its value: between points the scratch is held to the invariant `Inv`, and the
   output's buffer from point 10 on to a block of the result; so after the run the output array is the result. -/
module

public import proofs.«01_k».proof.Proof.InvStep
public import proofs.«01_k».proof.Proof.Blocks
public import Idealize.ShloMosaic.Lib.Pipeline.DatRel
public import Idealize.ShloMosaic.Lib.Pipeline.ArrRel
public import Idealize.ShloMosaic.Lib.Pipeline.Frame
public import Idealize.ShloMosaic.Lib.Tactic
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Rows

local notation "𝕄" => MT nD τ sig Unit (Elt Ideal) ℕ (UR sig nD τ) ℕ

variable (m : (ℓ : Loc nD τ sig) → Buf (Elt Ideal) ℓ) (ρ : Dev nD → PrngReg)

/-! ## The proof data and the body obligation -/

/-- What is held between points, before point `n`: the scratch at contents that satisfy the invariant, the generator register. -/
def PhiV (c : Dev nD) (n : ℕ) : sProp 𝕄 :=
  iprop((∃ x14 x15 x16 x17 x18, ⌜Inv (inputsOf m c) n x14 x15 x16 x17 x18⌝ ∗ owns (c : Thread nD τ) (Memref.whole cc0_scratch0) fullShare x14
    ∗ owns (c : Thread nD τ) (Memref.whole cc0_scratch1) fullShare x15 ∗ owns (c : Thread nD τ) (Memref.whole cc0_scratch2) fullShare x16
    ∗ owns (c : Thread nD τ) (Memref.whole cc0_scratch3) fullShare x17 ∗ owns (c : Thread nD τ) (Memref.whole cc0_scratch4) fullShare x18) ∗ (∃ r, prngReg c r))

/-- Only the output window is not named exactly. -/
def forgets0 : Fin 12 → Bool := fun w => w.val == 11

/-- The proof data on core `c`: the arrays as the region finds them; after the body each input's buffer at its block
    and the output's unnamed; the invariant; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ t := PhiV m c t.val
  q _ := fullShare
  owed _ := 0

/-- What the output's buffer is held to: from point 10 on, a block of the result. -/
def Rl (c : Dev nD) (w : Fin cfg0.W) (t : Fin cfg0.N) (X : (cfg0.win w).block.Idx → Elt Ideal (cfg0.win w).elt) : Prop :=
  match w, X with
  | ⟨11, _⟩, X => ∀ ho : 2000 * (t.val % 5) + 2000 ≤ 10000, 10 ≤ t.val → X = rowsAt (W := 2000) (inputsOf m c).out (2000 * (t.val % 5)) ho
  | _, _ => True

/-- The proof data with the output's buffer held to `Rl`. -/
abbrev rdats (c : Dev nD) := (dats m 0 c).toRRel forgets0 (Rl m c)

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The class's invariant, conjunct by conjunct: each scratch owned at some contents, the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ Y, ⌜(rdats m c).Finds 11 t Y⌝ ∗ owns (c : Thread nD τ) (st0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ (∃ X, ⌜Rl m c 11 t X⌝ ∗ owns (c : Thread nD τ) (st0_11 t) fullShare X))

/-- A step, at an offset spelt otherwise. -/
theorem Step.congr {p : ℕ} {z : Prop} [Decidable z] {o o' : ℕ} {ho : o + 2000 ≤ 10000} (e : o = o') (ho' : o' + 2000 ≤ 10000)
    {x2 : Vec Ideal S2000x128 .f32} {x3 : Vec Ideal S128x1024 .f32} {x4 x5 x7 x8 : Vec Ideal S1x1024 .f32} {x6 : Vec Ideal S1024x1024 .f32} {x9 : Vec Ideal S1024x512 .f32} {x10 : Vec Ideal S1x512 .f32} {x11 : Vec Ideal S512x10 .f32} {x12 : Vec Ideal S1x10 .f32} {x13 y13 : Vec Ideal S2000x10 .f32} {x14 y14 : Vec Ideal S10000x1024 .f32} {x15 x16 x17 x18 y15 y16 y17 y18 : Vec Ideal S8x1024 .f32}
    (h : Step p z o ho x2 x3 x4 x5 x6 x7 x8 x9 x10 x11 x12 x13 x14 x15 x16 x17 x18 y13 y14 y15 y16 y17 y18) : Step p z o' ho' x2 x3 x4 x5 x6 x7 x8 x9 x10 x11 x12 x13 x14 x15 x16 x17 x18 y13 y14 y15 y16 y17 y18 := by
  subst e; exact h

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = PhiV m c (t.val + 1) from rfl,
    show (dats m 0 c).owesAt () t.succ = (dats m 0 c).owesAt () t.castSucc from rfl,
    show (dats m 0 c).Φ t.castSucc = PhiV m c t.val from rfl, after0_0, after0_1, after0_2, after0_3, after0_4, after0_5, after0_6, after0_7, after0_8, after0_9, after0_10]
  unfold PhiV
  have ho5 : 2000 * (t.val % 5) + 2000 ≤ 10000 := by omega
  have e1 : 2000 * (grid0.coords t 1).val = 2000 * (t.val % 5) := by rw [coords_1]
  iintro ⟨⟨⟨%x14, %x15, %x16, %x17, %x18, %hI, HS0, HS1, HS2, HS3, HS4⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, %_, H11⟩⟩
  iapply (kernelRun c (grid0.coords t) (t.val / 5) (phase_lt t) (t.val % 5 = 0) (kind t) (e1 ▸ ho5) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d11 x14 x15 x16 x17 x18 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨%y13, %y14, %y15, %y16, %y17, %y18, %hS, H0, H1, H2, H3, H4, H5, H6, H7, H8, H9, H10, H11, HS0, HS1, HS2, HS3, HS4⟩
  have hst := Inv.step (inputsOf m c) t.isLt (fun h => iblk_0 m c t h ho5) (iblk_1 m c t) (iblk_2 m c t) (iblk_3 m c t) (iblk_4 m c t) (iblk_5 m c t)
    (iblk_6 m c t) (iblk_7 m c t) (iblk_8 m c t) (iblk_9 m c t) (iblk_10 m c t) hI (Step.congr e1 ho5 hS)
  isplitl [HS0 HS1 HS2 HS3 HS4 Hg]
  · isplitl [HS0 HS1 HS2 HS3 HS4]
    · iexists y14, y15, y16, y17, y18
      isplitr; · ipureintro; exact hst.1
      isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists y13
  isplitr; · ipureintro; exact fun _ => hst.2
  iexact H11

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation with the output held to `Rl`. -/
theorem body_obligation (c : Dev nD) :
    Pipeline.BodyObligationRel (dats m 0 c) (defs₀ (F := Ideal)) Variants.none () Set.univ forgets0 (Rl m c) := fun t => by
  rw [bigSep_W0, bigSep_W0, defs₀_row]
  exact triple_restated (sound_body m c t) rfl .rfl fun _ => .rfl

/-! ## The run and the frame -/

theorem Phi_in (c : Dev nD) : Pipeline.ΦA spec0 c ⊢ (rdats m c).Φ 0 := by
  rw [show (rdats m c).Φ 0 = PhiV m c 0 from rfl, PhiA_eq]
  unfold PhiV
  iintro ⟨⟨⟨%x14, HS0⟩, ⟨%x15, HS1⟩, ⟨%x16, HS2⟩, ⟨%x17, HS3⟩, ⟨%x18, HS4⟩⟩, Hg⟩
  isplitl [HS0 HS1 HS2 HS3 HS4]
  · iexists x14, x15, x16, x17, x18
    isplitr; · ipureintro; exact Inv.zero _ _ _ _ _ _
    isplitl [HS0]; · iexact HS0
    isplitl [HS1]; · iexact HS1
    isplitl [HS2]; · iexact HS2
    isplitl [HS3]; · iexact HS3
    iexact HS4
  iexact Hg

theorem Phi_out (c : Dev nD) : (rdats m c).Φ (Fin.last cfg0.N) ⊢ Pipeline.ΦA spec0 c := by
  rw [show (rdats m c).Φ (Fin.last cfg0.N) = PhiV m c cfg0.N from rfl, PhiA_eq]
  unfold PhiV
  iintro ⟨⟨%x14, %x15, %x16, %x17, %x18, %_, HS0, HS1, HS2, HS3, HS4⟩, Hg⟩
  isplitl [HS0 HS1 HS2 HS3 HS4]
  · isplitl [HS0]; · iexists x14; iexact HS0
    isplitl [HS1]; · iexists x15; iexact HS1
    isplitl [HS2]; · iexists x16; iexact HS2
    isplitl [HS3]; · iexists x17; iexact HS3
    iexists x18; iexact HS4
  iexact Hg

set_option backward.isDefEq.respectTransparency.types false in
/-- Every weakly fair execution of @main terminates with the arrays as `FramePost` has them and every counter at zero. -/
theorem run_main :
    θ_run defs (onTc (τ := τ) (main (F := Ideal))) (s₀ m ρ)
      (fun r => Pipeline.RDat.FramePost (cfgs 0) (rdats m) (V m) r ∧ r.2.sem = fun _ => 0) :=
  Pipeline.RDat.θ_run_frame_track cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := Phi_in m) (hout := Phi_out m)
    (Q' := _) (hQ' := fun _ h => h)

variable {m ρ}

/-- After the run every argument array holds what it held at launch. -/
theorem args_kept {r : PUnit × MemSt nD τ sig (Elt Ideal)}
    (h : Pipeline.RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 1 rfl).trans ((A_eq m c 1).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (Pipeline.RDat.FramePost.arr_in h c 4 rfl).trans ((A_eq m c 4).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    (Pipeline.RDat.FramePost.arr_in h c 7 rfl).trans ((A_eq m c 7).trans (V_main_arg11 m c)),
    ((h c).2 main_arg12 (Pipeline.mem_restRefs_of main_arg12 (by decide) (by decide))).trans (V_main_arg12 m c),
    (Pipeline.RDat.FramePost.arr_in h c 9 rfl).trans ((A_eq m c 9).trans (V_main_arg13 m c)),
    ((h c).2 main_arg14 (Pipeline.mem_restRefs_of main_arg14 (by decide) (by decide))).trans (V_main_arg14 m c)⟩

/-- After the run the output array is the result. -/
theorem out_eq {r : PUnit × MemSt nD τ sig (Elt Ideal)} (h : Pipeline.RDat.FramePost (cfgs 0) (rdats m) (V m) r) (c : Dev nD) :
    r.2.mem ((c.tc : Thread nD τ).loc main_v6) = (inputsOf m c).out := by
  obtain ⟨after, hL, hA⟩ := h.exists_exact c
  refine (hA 11).trans (arrAt_out _ _ fun t ho ht => ?_)
  exact (dats m 0 c).toRRel_leaves (w := 11) rfl (hL 11 t (flush_11 t)) ho ht

variable (m ρ)

/-- The run with its value: it terminates with the output array at the result and the argument arrays unchanged. -/
theorem run_value : θ_run defs (onTc (τ := τ) (main (F := Ideal))) ⟨m, fun _ => 0, ρ⟩ (fun r => ∀ c : Dev nD,
    r.2.mem ((c.tc : Thread nD τ).loc main_v6) = (inputsOf m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨out_eq h.1 c, args_kept h.1 c⟩) (run_main m ρ)

/-- THE FRAME: the run terminates with the argument arrays unchanged and every semaphore counter at zero. -/
theorem frame : θ_run defs (onTc (τ := τ) (main (F := Ideal))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => args_kept h.1 c, h.2⟩) (run_main m ρ)

end Cert.KernelIdeal.Hand

end
-- ==== Proof.Consts.lean ====
/- The float constants of the programs, as the extended reals their patterns denote. -/
module

public import Idealize.ShloMosaic.PureOps.Ideal

@[expose] public section

noncomputable section

namespace Cert.Consts

open Idealize.ShloMosaic

/-- `1e-5` (as a float32), the normalizations' guard, denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- `10000.0`, the number of rows, denotes the real `10000`. -/
theorem ofBits_rows : Ideal.ofBits .f32 0x461C4000#32 = ((10000 : ℝ) : EReal) := by
  simp [Ideal.ofBits, Ideal.ieee, -EReal.coe_mul]; norm_num

/-- The pattern of infinity denotes the top. -/
theorem ofBits_inf : Ideal.ofBits .f32 0x7F800000#32 = (⊤ : EReal) := by
  simp [Ideal.ofBits, Ideal.ieee]

end Cert.Consts

end
-- ==== Proof.BatchNorm.lean ====
/- The batch norm over the rows, as it is defined and as one scale and one shift per column from the column's sum and sum of
   squares: on real columns the two are equal. -/
module

public import proofs.«01_k».proof.Proof.Inv
public import proofs.«01_k».proof.Proof.Consts

@[expose] public section

noncomputable section

namespace Cert.Net

open Idealize.ShloMosaic

/-- The value is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.max_zero {x : EReal} : IsReal x → IsReal (max x 0)
  | ⟨a, ha⟩ => by
    rcases le_total x 0 with h | h
    · exact ⟨0, by rw [max_eq_right h, EReal.coe_zero]⟩
    · exact ⟨a, by rw [max_eq_left h, ha]⟩

/-- The real sum of a finite family, in the extended reals. -/
theorem coe_sum {ι : Type} (s : Finset ι) (f : ι → ℝ) : ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ r, IsReal (f r)) : IsReal (∑ r ∈ s, f r) := by
  choose g hg using h
  exact ⟨∑ r ∈ s, g r, by rw [coe_sum]; exact Finset.sum_congr rfl fun r _ => hg r⟩

/-- A product of real matrices is real. -/
theorem lin_real {n K M : ℕ} {a : (⟨2, ![n, K]⟩ : Shape).Idx → EReal} {w : (⟨2, ![K, M]⟩ : Shape).Idx → EReal} (ha : ∀ i, IsReal (a i))
    (hw : ∀ i, IsReal (w i)) (i) : IsReal (lin a w i) :=
  IsReal.sum _ fun _ => (ha _).mul (hw _)

/-- An activation of real arrays is real. -/
theorem act_real {n K : ℕ} {h : (⟨2, ![n, K]⟩ : Shape).Idx → EReal} {s t : Fin K → EReal} (hh : ∀ i, IsReal (h i)) (hs : ∀ k, IsReal (s k))
    (ht : ∀ k, IsReal (t k)) (i) : IsReal (act h s t i) :=
  (((hh i).mul (hs _)).add (ht _)).max_zero

/-! ## One column -/

/-- The mean of the squared deviations is the mean of the squares less the square of the mean. -/
theorem var_eq (h : Fin 10000 → ℝ) :
    (∑ r, (h r - (∑ r, h r) / 10000) * (h r - (∑ r, h r) / 10000)) / 10000
      = (∑ r, h r * h r) / 10000 - (∑ r, h r) / 10000 * ((∑ r, h r) / 10000) := by
  generalize hS : ∑ r, h r = S
  have : ∀ r, (h r - S / 10000) * (h r - S / 10000) = h r * h r - 2 * (S / 10000) * h r + S / 10000 * (S / 10000) := fun r => by ring
  simp only [this, Finset.sum_add_distrib, Finset.sum_sub_distrib, ← Finset.mul_sum, hS, Finset.sum_const, Finset.card_univ, Fintype.card_fin,
    nsmul_eq_mul]
  push_cast
  ring

/-- The mean of the squared deviations is not negative. -/
theorem var_nonneg (h : Fin 10000 → ℝ) :
    0 ≤ (∑ r, h r * h r) / 10000 - (∑ r, h r) / 10000 * ((∑ r, h r) / 10000) := by
  rw [← var_eq]
  exact div_nonneg (Finset.sum_nonneg fun r _ => mul_self_nonneg _) (by norm_num)

/-- Adding a shift whose real part is subtracted from it. -/
theorem add_sub_shift (p q : ℝ) (b : EReal) : (p : EReal) + (b - (q : EReal)) = ((p - q : ℝ) : EReal) + b := by
  induction b using EReal.rec with
  | bot => simp
  | top => rw [EReal.top_sub_coe, EReal.coe_add_top, EReal.coe_add_top]
  | coe b => norm_cast; ring

/-- The column's mean as the definition takes it. -/
def meanDef (y : Fin 10000 → EReal) : EReal := Ideal.div (∑ r, y r) ((10000 : ℝ) : EReal)

/-- The column's variance as the definition takes it. -/
def varDef (y : Fin 10000 → EReal) : EReal := Ideal.div (∑ r, (y r - meanDef y) * (y r - meanDef y)) ((10000 : ℝ) : EReal)

theorem div_rows (x : ℝ) : Ideal.div (x : EReal) ((10000 : ℝ) : EReal) = ((x / 10000 : ℝ) : EReal) := by
  rw [Ideal.div_coe (by norm_num), ← EReal.coe_mul]; congr 1; ring

/-- A bias moves the mean by itself. -/
theorem meanDef_bias (h : Fin 10000 → ℝ) (c : ℝ) : meanDef (fun r => (h r : EReal) + (c : EReal)) = (((∑ r, h r) / 10000 + c : ℝ) : EReal) := by
  unfold meanDef
  simp only [← EReal.coe_add]
  rw [← coe_sum, div_rows, Finset.sum_add_distrib, Finset.sum_const, Finset.card_univ, Fintype.card_fin, nsmul_eq_mul]
  refine congrArg Real.toEReal ?_
  push_cast; ring

/-- A bias does not move the variance. -/
theorem varDef_bias (h : Fin 10000 → ℝ) (c : ℝ) :
    varDef (fun r => (h r : EReal) + (c : EReal)) = (((∑ r, h r * h r) / 10000 - (∑ r, h r) / 10000 * ((∑ r, h r) / 10000) : ℝ) : EReal) := by
  unfold varDef
  rw [meanDef_bias]
  simp only [← EReal.coe_add, ← EReal.coe_sub, ← EReal.coe_mul]
  rw [← coe_sum, div_rows, ← var_eq]
  refine congrArg (fun u : ℝ => ((u / 10000 : ℝ) : EReal)) (Finset.sum_congr rfl fun r _ => ?_)
  ring

end Cert.Net

namespace Cert.KernelIdeal.Hand

open Cert.KernelIdeal Cert.KernelIdeal.Gen Cert.Net Idealize.ShloMosaic

theorem meanOf_coe (S : ℝ) : meanOf (S : EReal) = ((S / 10000 : ℝ) : EReal) := by
  show (S : EReal) * ((10000⁻¹ : ℝ) : EReal) = _
  rw [← EReal.coe_mul]; rfl

/-- The scale of a real column. -/
theorem scaleOf_coe {e : ℝ} (he : 0 < e) (hE : Ideal.ofBits .f32 0x3727C5AC#32 = (e : EReal)) (h : Fin 10000 → ℝ) (g : ℝ) :
    scaleOf ((∑ r, h r : ℝ) : EReal) ((∑ r, h r * h r : ℝ) : EReal) (g : EReal)
      = ((g * (Real.sqrt ((∑ r, h r * h r) / 10000 - (∑ r, h r) / 10000 * ((∑ r, h r) / 10000) + e))⁻¹ : ℝ) : EReal) := by
  unfold scaleOf
  rw [meanOf_coe, show ((∑ r, h r * h r : ℝ) : EReal) * Named.named (F := Ideal) κ "inv_n" (φ := .f32) 0x38D1B717#32 = meanOf ((∑ r, h r * h r : ℝ) : EReal) from rfl,
    meanOf_coe, hE, ← EReal.coe_mul, ← EReal.coe_sub, ← EReal.coe_add, Ideal.rsqrt_coe, if_neg, if_neg, ← EReal.coe_mul]
  · have := var_nonneg h; linarith
  · have := var_nonneg h; linarith

/-- On a real column the batch norm as defined, of the column with a bias, is the column scaled and shifted. -/
theorem norm_eq {e : ℝ} (he : 0 < e) (hE : Ideal.ofBits .f32 0x3727C5AC#32 = (e : EReal)) (h : Fin 10000 → ℝ) (c g : ℝ) (b : EReal) (r : Fin 10000) :
    Ideal.div (((h r : EReal) + (c : EReal)) - meanDef fun r => (h r : EReal) + (c : EReal))
        (Ideal.sqrt (varDef (fun r => (h r : EReal) + (c : EReal)) + Ideal.ofBits .f32 0x3727C5AC#32)) * (g : EReal) + b
      = (h r : EReal) * scaleOf ((∑ r, h r : ℝ) : EReal) ((∑ r, h r * h r : ℝ) : EReal) (g : EReal)
        + shiftOf ((∑ r, h r : ℝ) : EReal) ((∑ r, h r * h r : ℝ) : EReal) (g : EReal) b := by
  have hv := var_nonneg h
  unfold shiftOf
  rw [scaleOf_coe he hE, meanOf_coe, meanDef_bias, varDef_bias, hE, ← EReal.coe_add, ← EReal.coe_sub, ← EReal.coe_add, Ideal.sqrt_coe, if_neg (by linarith),
    Ideal.div_coe (Real.sqrt_pos.mpr (by linarith)).ne', ← EReal.coe_mul, ← EReal.coe_mul, ← EReal.coe_mul, ← EReal.coe_mul, add_sub_shift]
  congr 2
  ring

/-- The layer's normalization as defined. -/
def bn (y : S10000x1024.Idx → EReal) (g b : Fin 1024 → EReal) : S10000x1024.Idx → EReal := fun i =>
  max (Ideal.div (y i - meanDef fun r => y (ix2 r (i 1))) (Ideal.sqrt (varDef (fun r => y (ix2 r (i 1))) + Ideal.ofBits .f32 0x3727C5AC#32)) * g (i 1)
    + b (i 1)) 0

/-- On a real layer the normalization as defined, of the layer with a bias, is the scaled and shifted layer. -/
theorem bn_eq_act (H : S10000x1024.Idx → EReal) (c g b : Fin 1024 → EReal) (hH : ∀ i, IsReal (H i)) (hc : ∀ k, IsReal (c k)) (hg : ∀ k, IsReal (g k)) :
    bn (fun i => H i + c (i 1)) g b
      = act H (fun k => scaleOf (colSum H 10000 k) (colSq H 10000 k) (g k)) (fun k => shiftOf (colSum H 10000 k) (colSq H 10000 k) (g k) (b k)) := by
  obtain ⟨e, he, hE⟩ := Consts.ofBits_eps
  choose h hh using hH
  choose c' hc' using hc
  choose g' hg' using hg
  refine ext2 fun r k => ?_
  have e1 : colSum H 10000 k = ((∑ r, h (ix2 r k) : ℝ) : EReal) := by
    rw [colSum_all, coe_sum]; exact Finset.sum_congr rfl fun r _ => hh _
  have e2 : colSq H 10000 k = ((∑ r, h (ix2 r k) * h (ix2 r k) : ℝ) : EReal) := by
    rw [colSq, colSum_all, coe_sum]; exact Finset.sum_congr rfl fun r _ => by rw [hh, EReal.coe_mul]
  have key := norm_eq he hE (fun r => h (ix2 r k)) (c' k) (g' k) (b k) r
  show max (Ideal.div (H (ix2 r k) + c k - meanDef fun r => H (ix2 r k) + c k)
      (Ideal.sqrt (varDef (fun r => H (ix2 r k) + c k) + Ideal.ofBits .f32 0x3727C5AC#32)) * g k + b k) 0
    = max (H (ix2 r k) * scaleOf (colSum H 10000 k) (colSq H 10000 k) (g k) + shiftOf (colSum H 10000 k) (colSq H 10000 k) (g k) (b k)) 0
  rw [e1, e2]
  simp only [hh, hc', hg']
  exact congrArg (fun u => max u 0) key

/-- The scale and the shift of a real layer are real. -/
theorem scale_real (H : S10000x1024.Idx → EReal) (hH : ∀ i, IsReal (H i)) (k : Fin 1024) {g : EReal} (hg : IsReal g) :
    IsReal (scaleOf (colSum H 10000 k) (colSq H 10000 k) g) := by
  obtain ⟨e, he, hE⟩ := Consts.ofBits_eps
  choose h hh using hH
  obtain ⟨g', rfl⟩ := hg
  have e1 : colSum H 10000 k = ((∑ r, h (ix2 r k) : ℝ) : EReal) := by
    rw [colSum_all, coe_sum]; exact Finset.sum_congr rfl fun r _ => hh _
  have e2 : colSq H 10000 k = ((∑ r, h (ix2 r k) * h (ix2 r k) : ℝ) : EReal) := by
    rw [colSq, colSum_all, coe_sum]; exact Finset.sum_congr rfl fun r _ => by rw [hh, EReal.coe_mul]
  rw [e1, e2, scaleOf_coe he hE]
  exact IsReal.coe _

theorem shift_real (H : S10000x1024.Idx → EReal) (hH : ∀ i, IsReal (H i)) (k : Fin 1024) {g b : EReal} (hg : IsReal g) (hb : IsReal b) :
    IsReal (shiftOf (colSum H 10000 k) (colSq H 10000 k) g b) := by
  refine hb.sub (IsReal.mul ?_ (scale_real H hH k hg))
  rw [colSum_all]
  exact (IsReal.sum _ fun r => hH _).mul ⟨10000⁻¹, rfl⟩

end Cert.KernelIdeal.Hand

end
-- ==== Proof.RefValue.lean ====
/- The reference's result at the extended reals: matrix products, biases and the batch norm as it is defined. -/
module

public import proofs.«01_k».proof.Proof.BatchNorm
public import proofs.«01_k».proof.Proof.Consts
public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Cert.ReferenceIdeal.Value Cert.Net Idealize.ShloMosaic

/-- The deviation from the column's mean, as the variance takes it. -/
abbrev devTerm (y : FVec Ideal S10000x1024 .f32) : FVec Ideal S10000x1024 .f32 :=
  subf y (broadcastInDim S10000x1024 ![0, 1] bcast_S1x1024_S10000x1024_0_1 (Host.divf (broadcastInDim S1x1024 ![1] bcast_S1024_S1x1024_1 (Host.reduceAdd y (constant S_ .f32 0x00000000#32) reducesTo_S10000x1024_S1024_d0 h_S_)) (broadcastInDim S1x1024 ![] bcast_S_S1x1024 (constant S_ .f32 0x461C4000#32))))

/-- The variance's divisor. -/
abbrev cntTerm : FVec Ideal S_ .f32 := subf (constant S_ .f32 0x461C4000#32) (sitofp .f32 (constantI S_ 32 0#32))

/-- The normalized layer, as printed. -/
abbrev bnTerm (y : FVec Ideal S10000x1024 .f32) (g b : FVec Ideal S1024 .f32) : FVec Ideal S10000x1024 .f32 :=
  maximumf (addf (mulf (Host.divf (subf y (broadcastInDim S10000x1024 ![0, 1] bcast_S1x1024_S10000x1024_0_1 (broadcastInDim S1x1024 ![1] bcast_S1024_S1x1024_1 (Host.divf (Host.reduceAdd y (constant S_ .f32 0x00000000#32) reducesTo_S10000x1024_S1024_d0 h_S_) (broadcastInDim S1024 ![] bcast_S_S1024 (constant S_ .f32 0x461C4000#32)))))) (broadcastInDim S10000x1024 ![0, 1] bcast_S1x1024_S10000x1024_0_1 (broadcastInDim S1x1024 ![1] bcast_S1024_S1x1024_1 (Host.sqrt (addf (select (broadcastInDim S1024 ![] bcast_S_S1024 (cmpf .ogt (cntTerm) (constant S_ .f32 0x00000000#32))) (Host.divf (Host.reduceAdd (mulf (devTerm y) (devTerm y)) (constant S_ .f32 0x00000000#32) reducesTo_S10000x1024_S1024_d0 h_S_) (broadcastInDim S1024 ![] bcast_S_S1024 (cntTerm))) (broadcastInDim S1024 ![] bcast_S_S1024 (id (constant S_ .f32 0x7FC00000#32)))) (broadcastInDim S1024 ![] bcast_S_S1024 (constant S_ .f32 0x3727C5AC#32))))))) (broadcastInDim S10000x1024 ![0, 1] bcast_S1x1024_S10000x1024_0_1 (broadcastInDim S1x1024 ![1] bcast_S1024_S1x1024_1 g))) (broadcastInDim S10000x1024 ![0, 1] bcast_S1x1024_S10000x1024_0_1 (broadcastInDim S1x1024 ![1] bcast_S1024_S1x1024_1 b))) (broadcastInDim S10000x1024 ![] bcast_S_S10000x1024 (constant S_ .f32 0x00000000#32))

theorem count_zero : FloatOps.sitofp (F := Ideal) .f32 (0#32) = 0 := by
  show (((0#32 : BitVec 32).toInt : ℝ) : EReal) = 0
  simp

/-- The batch norm as printed is the batch norm as defined. -/
theorem bnTerm_eq (y : FVec Ideal S10000x1024 .f32) (g b : FVec Ideal S1024 .f32) :
    bnTerm y g b = Cert.KernelIdeal.Hand.bn y (fun k => g (ix1 k)) (fun k => b (ix1 k)) := by
  funext i
  unfold bnTerm cntTerm devTerm
  pointwise []
  have hpos : (0 : EReal) < ((10000 : ℝ) : EReal) := by exact_mod_cast (by norm_num : (0 : ℝ) < 10000)
  rw [count_zero, sub_zero, Consts.ofBits_rows, if_pos hpos]
  rfl

/-- A linear layer as printed. -/
theorem lin1_eq (x : FVec Ideal S10000x128 .f32) (w : FVec Ideal S128x1024 .f32) (b : FVec Ideal S1024 .f32) :
    addf (Host.dotGeneral dot_S10000x128_S128x1024_S10000x1024_1_0_0_1_n_n none x w) (broadcastInDim S10000x1024 ![0, 1] bcast_S1x1024_S10000x1024_0_1 (broadcastInDim S1x1024 ![1] bcast_S1024_S1x1024_1 b))
      = linb x w (fun k => b (ix1 k)) := by
  funext i
  pointwise [linb, lin]

theorem lin2_eq (x : FVec Ideal S10000x1024 .f32) (w : FVec Ideal S1024x1024 .f32) (b : FVec Ideal S1024 .f32) :
    addf (Host.dotGeneral dot_S10000x1024_S1024x1024_S10000x1024_1_0_0_1_n_n none x w) (broadcastInDim S10000x1024 ![0, 1] bcast_S1x1024_S10000x1024_0_1 (broadcastInDim S1x1024 ![1] bcast_S1024_S1x1024_1 b))
      = linb x w (fun k => b (ix1 k)) := by
  funext i
  pointwise [linb, lin]

theorem lin3_eq (x : FVec Ideal S10000x1024 .f32) (w : FVec Ideal S1024x512 .f32) (b : FVec Ideal S512 .f32) :
    maximumf (addf (Host.dotGeneral dot_S10000x1024_S1024x512_S10000x512_1_0_0_1_n_n none x w) (broadcastInDim S10000x512 ![0, 1] bcast_S1x512_S10000x512_0_1 (broadcastInDim S1x512 ![1] bcast_S512_S1x512_1 b))) (broadcastInDim S10000x512 ![] bcast_S_S10000x512 (constant S_ .f32 0x00000000#32))
      = relu (linb x w (fun k => b (ix1 k))) := by
  funext i
  pointwise [relu, linb, lin]

theorem lin4_eq (x : FVec Ideal S10000x512 .f32) (w : FVec Ideal S512x10 .f32) (b : FVec Ideal S10 .f32) :
    addf (Host.dotGeneral dot_S10000x512_S512x10_S10000x10_1_0_0_1_n_n none x w) (broadcastInDim S10000x10 ![0, 1] bcast_S1x10_S10000x10_0_1 (broadcastInDim S1x10 ![1] bcast_S10_S1x10_1 b))
      = linb x w (fun k => b (ix1 k)) := by
  funext i
  pointwise [linb, lin]

/-- The network as the reference has it. -/
def net (x : FVec Ideal S10000x128 .f32) (W1 : FVec Ideal S128x1024 .f32) (b1 g1 t1 : FVec Ideal S1024 .f32) (W2 : FVec Ideal S1024x1024 .f32)
    (b2 g2 t2 : FVec Ideal S1024 .f32) (fW : FVec Ideal S1024x512 .f32) (fb : FVec Ideal S512 .f32) (lW : FVec Ideal S512x10 .f32) (lb : FVec Ideal S10 .f32) :
    FVec Ideal S10000x10 .f32 :=
  head (Cert.KernelIdeal.Hand.bn (linb (Cert.KernelIdeal.Hand.bn (linb x W1 (fun k => b1 (ix1 k))) (fun k => g1 (ix1 k)) (fun k => t1 (ix1 k))) W2 (fun k => b2 (ix1 k)))
    (fun k => g2 (ix1 k)) (fun k => t2 (ix1 k))) fW (fun k => fb (ix1 k)) lW (fun k => lb (ix1 k))

open Idealize.SL.Sem Idealize.ShloMosaic.StableHlo Idealize.ShloMosaic.TcCoe in
/-- The reference's run, its result the network's. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = net (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ⟨(h c).1.trans ?_, (h c).2⟩) (Value.run m ρ)
  have e1 : res_main_v39 (launchContents m c) = linb (m ((c.tc : Thread nD τ).loc main_arg0)) (m ((c.tc : Thread nD τ).loc main_arg3)) (fun k => (m ((c.tc : Thread nD τ).loc main_arg4)) (ix1 k)) := lin1_eq _ _ _
  have e2 : res_main_v99 (launchContents m c) = linb (Cert.KernelIdeal.Hand.bn (res_main_v39 (launchContents m c)) (fun k => (m ((c.tc : Thread nD τ).loc main_arg5)) (ix1 k)) (fun k => (m ((c.tc : Thread nD τ).loc main_arg6)) (ix1 k))) (m ((c.tc : Thread nD τ).loc main_arg7)) (fun k => (m ((c.tc : Thread nD τ).loc main_arg8)) (ix1 k)) :=
    (lin2_eq (bnTerm (res_main_v39 (launchContents m c)) (m ((c.tc : Thread nD τ).loc main_arg5)) (m ((c.tc : Thread nD τ).loc main_arg6))) _ _).trans
      (by rw [bnTerm_eq])
  have e3 := (lin4_eq (maximumf (addf (Host.dotGeneral (F := Ideal) dot_S10000x1024_S1024x512_S10000x512_1_0_0_1_n_n none (bnTerm (res_main_v99 (launchContents m c)) (m ((c.tc : Thread nD τ).loc main_arg9)) (m ((c.tc : Thread nD τ).loc main_arg10))) (m ((c.tc : Thread nD τ).loc main_arg11))) (broadcastInDim S10000x512 ![0, 1] bcast_S1x512_S10000x512_0_1 (broadcastInDim S1x512 ![1] bcast_S512_S1x512_1 (m ((c.tc : Thread nD τ).loc main_arg12))))) (broadcastInDim S10000x512 ![] bcast_S_S10000x512 (constant S_ .f32 0x00000000#32)))
    (m ((c.tc : Thread nD τ).loc main_arg13)) (m ((c.tc : Thread nD τ).loc main_arg14))).trans (by rw [lin3_eq, bnTerm_eq, e2, e1])
  exact e3

end Cert.ReferenceIdeal.Hand

end
-- ==== Proof.Finite.lean ====
/- What the precondition says of an array: every element is a real number. -/
module

public import proofs.«01_k».proof.Proof.BatchNorm
public import proofs.«01_k».proof.Pre_finite
public import Idealize.ShloMosaic.Lib.ReduceAll
public import Idealize.ShloMosaic.Lib.WordCmp
public import Idealize.ShloMosaic.Lib.Affine
public import Idealize.ShloMosaic.Lib.WordArith
public import Idealize.ShloMosaic.Lib.Pointwise

@[expose] public section

noncomputable section

namespace Cert.Pre_finite.Hand

open Cert.Pre_finite Cert.Net Idealize.ShloMosaic

/-- An extended real whose absolute value is below the top is real. -/
theorem isReal_of_abs_lt {x : EReal} (h : max x (-x) < ⊤) : IsReal x := by
  induction x using EReal.rec with
  | bot => simp at h
  | top => simp at h
  | coe r => exact ⟨r, rfl⟩

/-- The empty shape has one index. -/
instance : Subsingleton S_.Idx := ⟨fun _ _ => funext fun a => a.elim0⟩

/-- The printed check of one array. -/
theorem real_of_check {s : Shape} {axes : List (Fin s.rank)} (x : FVec Ideal s .f32) (hb : S_.BroadcastsInDim s (![] : Fin 0 → Fin s.rank)) (hr : s.ReducesTo axes S_) (hu : 0 < S_.numel)
    (j : S_.Idx) (h : Host.reduce IntOp.andi (cmpf .olt (Host.absf x) (broadcastInDim s ![] hb (constant S_ .f32 0x7F800000#32))) (constantI S_ 1 1#1) hr hu j = 1#1)
    (i : s.Idx) : IsReal (x i) := by
  have hi := Host.reduce_andi_all _ _ hr hu j h i
  change BitVec.ofBool (decide (max (x i) (-(x i)) < Ideal.ofBits .f32 0x7F800000#32)) = 1#1 at hi
  rw [WordCmp.ofBool_eq_one_iff, decide_eq_true_iff, Consts.ofBits_inf] at hi
  exact isReal_of_abs_lt hi

/-- The precondition, read: the eight arrays it names are real at every index. -/
theorem read [Facts] {a0 : FVec Ideal S10000x128 .f32} {a1 : IVec S2x320000 32} {a2 : FVec Ideal S320000 .f32} {a3 : FVec Ideal S128x1024 .f32}
    {a4 a5 a6 : FVec Ideal S1024 .f32} {a7 : FVec Ideal S1024x1024 .f32} {a8 a9 a10 : FVec Ideal S1024 .f32} {a11 : FVec Ideal S1024x512 .f32}
    {a12 : FVec Ideal S512 .f32} {a13 : FVec Ideal S512x10 .f32} {a14 : FVec Ideal S10 .f32}
    (h : fn (F := Ideal) a0 a1 a2 a3 a4 a5 a6 a7 a8 a9 a10 a11 a12 a13 a14 = fun _ => 1#1) :
    (∀ i, IsReal (a0 i)) ∧ (∀ i, IsReal (a3 i)) ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) := by
  have h0 := congrFun h ix0
  dsimp only [fn, fn_part1, fn_part2] at h0
  obtain ⟨h0, k9⟩ := IntOp.andi_eq_one.mp h0
  obtain ⟨h0, k8⟩ := IntOp.andi_eq_one.mp h0
  obtain ⟨h0, k7⟩ := IntOp.andi_eq_one.mp h0
  obtain ⟨h0, k6⟩ := IntOp.andi_eq_one.mp h0
  obtain ⟨h0, k5⟩ := IntOp.andi_eq_one.mp h0
  obtain ⟨h0, k4⟩ := IntOp.andi_eq_one.mp h0
  obtain ⟨k0, k3⟩ := IntOp.andi_eq_one.mp h0
  exact ⟨real_of_check _ _ _ _ _ k0, real_of_check _ _ _ _ _ k3, real_of_check _ _ _ _ _ k4, real_of_check _ _ _ _ _ k5, real_of_check _ _ _ _ _ k6,
    real_of_check _ _ _ _ _ k7, real_of_check _ _ _ _ _ k8, real_of_check _ _ _ _ _ k9⟩

end Cert.Pre_finite.Hand

end
-- ==== Proof.Algebraic.lean ====
/- The equality of the two programs' results, where the batch norms' inputs are real. -/
module

public import proofs.«01_k».proof.Proof.ValueRun
public import proofs.«01_k».proof.Proof.RefValue
public import proofs.«01_k».proof.Proof.Finite
public import Idealize.ShloMosaic.Lib.Claim
public import Idealize.ShloMosaic.Lib.Pointwise

@[expose] public section

noncomputable section

namespace Cert.KernelIdeal.Hand

open Cert.KernelIdeal Cert.KernelIdeal.Gen Cert.Net Idealize.ShloMosaic Idealize.ShloMosaic.TcCoe

variable (m : (ℓ : Loc nD τ sig) → Buf (Elt Ideal) ℓ) (c : Dev nD)

/-- The row the launch reads as `g1` is the flat argument. -/
theorem row_g1 : row (inputsOf m c).g1 = fun k => (show FVec Ideal ⟨1, ![1024]⟩ .f32 from m ((c.tc : Thread nD τ).loc main_arg5)) (ix1 k) := by
  funext k
  show (V m c main_v0 : (⟨2, ![1, 1024]⟩ : Shape).Idx → EReal) (ix2 0 k) = _
  entry_read
  pointwise []

/-- The row the launch reads as `t1` is the flat argument. -/
theorem row_t1 : row (inputsOf m c).t1 = fun k => (show FVec Ideal ⟨1, ![1024]⟩ .f32 from m ((c.tc : Thread nD τ).loc main_arg6)) (ix1 k) := by
  funext k
  show (V m c main_v1 : (⟨2, ![1, 1024]⟩ : Shape).Idx → EReal) (ix2 0 k) = _
  entry_read
  pointwise []

/-- The row the launch reads as `g2` is the flat argument. -/
theorem row_g2 : row (inputsOf m c).g2 = fun k => (show FVec Ideal ⟨1, ![1024]⟩ .f32 from m ((c.tc : Thread nD τ).loc main_arg9)) (ix1 k) := by
  funext k
  show (V m c main_v2 : (⟨2, ![1, 1024]⟩ : Shape).Idx → EReal) (ix2 0 k) = _
  entry_read
  pointwise []

/-- The row the launch reads as `t2` is the flat argument. -/
theorem row_t2 : row (inputsOf m c).t2 = fun k => (show FVec Ideal ⟨1, ![1024]⟩ .f32 from m ((c.tc : Thread nD τ).loc main_arg10)) (ix1 k) := by
  funext k
  show (V m c main_v3 : (⟨2, ![1, 1024]⟩ : Shape).Idx → EReal) (ix2 0 k) = _
  entry_read
  pointwise []

/-- The row the launch reads as `fb` is the flat argument. -/
theorem row_fb : row (inputsOf m c).fb = fun k => (show FVec Ideal ⟨1, ![512]⟩ .f32 from m ((c.tc : Thread nD τ).loc main_arg12)) (ix1 k) := by
  funext k
  show (V m c main_v4 : (⟨2, ![1, 512]⟩ : Shape).Idx → EReal) (ix2 0 k) = _
  entry_read
  pointwise []

/-- The row the launch reads as `lb` is the flat argument. -/
theorem row_lb : row (inputsOf m c).lb = fun k => (show FVec Ideal ⟨1, ![10]⟩ .f32 from m ((c.tc : Thread nD τ).loc main_arg14)) (ix1 k) := by
  funext k
  show (V m c main_v5 : (⟨2, ![1, 10]⟩ : Shape).Idx → EReal) (ix2 0 k) = _
  entry_read
  pointwise []

/-- The kernel's result is the reference's network of the launched arrays, where what the batch norms are given is real. -/
theorem out_eq_net (h0 : ∀ i, IsReal (m ((c.tc : Thread nD τ).loc main_arg0) i)) (h3 : ∀ i, IsReal (m ((c.tc : Thread nD τ).loc main_arg3) i)) (h4 : ∀ i, IsReal (m ((c.tc : Thread nD τ).loc main_arg4) i)) (h5 : ∀ i, IsReal (m ((c.tc : Thread nD τ).loc main_arg5) i))
    (h6 : ∀ i, IsReal (m ((c.tc : Thread nD τ).loc main_arg6) i)) (h7 : ∀ i, IsReal (m ((c.tc : Thread nD τ).loc main_arg7) i)) (h8 : ∀ i, IsReal (m ((c.tc : Thread nD τ).loc main_arg8) i)) (h9 : ∀ i, IsReal (m ((c.tc : Thread nD τ).loc main_arg9) i)) :
    (inputsOf m c).out = Cert.ReferenceIdeal.Hand.net (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have eX : (inputsOf m c).X = m ((c.tc : Thread nD τ).loc main_arg0) := V_main_arg0 m c
  have eW1 : (inputsOf m c).W1 = m ((c.tc : Thread nD τ).loc main_arg3) := V_main_arg3 m c
  have eW2 : (inputsOf m c).W2 = m ((c.tc : Thread nD τ).loc main_arg7) := V_main_arg7 m c
  have efW : (inputsOf m c).fW = m ((c.tc : Thread nD τ).loc main_arg11) := V_main_arg11 m c
  have elW : (inputsOf m c).lW = m ((c.tc : Thread nD τ).loc main_arg13) := V_main_arg13 m c
  have r1 : ∀ i, IsReal ((inputsOf m c).H1 i) := fun i => lin_real (fun i => by rw [eX]; exact h0 i) (fun i => by rw [eW1]; exact h3 i) i
  have g1 : ∀ k, IsReal (row (inputsOf m c).g1 k) := fun k => by rw [row_g1]; exact h5 _
  have t1 : ∀ k, IsReal (row (inputsOf m c).t1 k) := fun k => by rw [row_t1]; exact h6 _
  have g2 : ∀ k, IsReal (row (inputsOf m c).g2 k) := fun k => by rw [row_g2]; exact h9 _
  have r2 : ∀ i, IsReal ((inputsOf m c).H2 i) := fun i => lin_real
    (act_real r1 (fun k => scale_real _ r1 k (g1 k)) (fun k => shift_real _ r1 k (g1 k) (t1 k))) (fun i => by rw [eW2]; exact h7 i) i
  have n1 := bn_eq_act (inputsOf m c).H1 (fun k => (m ((c.tc : Thread nD τ).loc main_arg4)) (ix1 k)) (row (inputsOf m c).g1) (row (inputsOf m c).t1) r1 (fun k => h4 _) g1
  have n2 := bn_eq_act (inputsOf m c).H2 (fun k => (m ((c.tc : Thread nD τ).loc main_arg8)) (ix1 k)) (row (inputsOf m c).g2) (row (inputsOf m c).t2) r2 (fun k => h8 _) g2
  have e1 : bn (linb (inputsOf m c).X (inputsOf m c).W1 (fun k => (m ((c.tc : Thread nD τ).loc main_arg4)) (ix1 k))) (row (inputsOf m c).g1) (row (inputsOf m c).t1)
      = act (inputsOf m c).H1 (inputsOf m c).s1 (inputsOf m c).r1 := n1
  have e2 : bn (linb (act (inputsOf m c).H1 (inputsOf m c).s1 (inputsOf m c).r1) (inputsOf m c).W2 (fun k => (m ((c.tc : Thread nD τ).loc main_arg8)) (ix1 k))) (row (inputsOf m c).g2) (row (inputsOf m c).t2)
      = act (inputsOf m c).H2 (inputsOf m c).s2 (inputsOf m c).r2 := n2
  have key : (inputsOf m c).out = head (bn (linb (bn (linb (inputsOf m c).X (inputsOf m c).W1 (fun k => (m ((c.tc : Thread nD τ).loc main_arg4)) (ix1 k))) (row (inputsOf m c).g1) (row (inputsOf m c).t1))
      (inputsOf m c).W2 (fun k => (m ((c.tc : Thread nD τ).loc main_arg8)) (ix1 k))) (row (inputsOf m c).g2) (row (inputsOf m c).t2)) (inputsOf m c).fW (row (inputsOf m c).fb) (inputsOf m c).lW (row (inputsOf m c).lb) := by
    rw [e1, e2]; rfl
  rw [key, row_g1, row_t1, row_g2, row_t2, row_fb, row_lb, eX, eW1, eW2, efW, elW]
  rfl

end Cert.KernelIdeal.Hand

end
-- ==== Proof.Claims.lean ====
/- The frame claims of the three programs, the ledger's one entry and the equality of the results. -/
module

public import proofs.«01_k».proof.Defs
public import proofs.«01_k».proof.Proof.FrameRun
public import proofs.«01_k».proof.Proof.Algebraic
public import proofs.«01_k».proof.Proof.Gen.ReferenceIdeal.Run

@[expose] public section

namespace Cert.Proof

open Idealize.ShloMosaic Idealize.SL.Sem

/-- The kernel, at every float instance, ends with its arguments unchanged and its counters at zero. -/
theorem frame_kernel : Cert.quiescent_Kernel := fun m ρ _ => Cert.Kernel.Hand.frame m ρ

/-- The idealized kernel ends with its arguments unchanged and its counters at zero. -/
theorem frame_kernelIdeal : Cert.quiescent_KernelIdeal := fun m ρ _ => Cert.KernelIdeal.Hand.frame m ρ

/-- The same, from memories satisfying the value claim's precondition. -/
theorem frame_kernelIdeal_finite [Cert.Pre_finite.Facts] : Cert.quiescent_KernelIdeal_pre_finite := fun m ρ _ => Cert.KernelIdeal.Hand.frame m ρ

/-- The reference ends with its arguments unchanged and its counters at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, from memories satisfying the value claim's precondition. -/
theorem frame_referenceIdeal_finite [Cert.Pre_finite.Facts] : Cert.quiescent_ReferenceIdeal_pre_finite := fun m ρ _ => frame_referenceIdeal m ρ trivial

/-- The named constant's value in the certificate's table is the inverse of the number of rows. -/
theorem preserves : Cert.preserves_Kernel_KernelIdeal :=
  IdealRules.named_const.statement Cert.KernelIdeal.κ "inv_n" .f32 0x38D1B717#32 ((10000⁻¹ : ℝ) : EReal) rfl

/-- From memories agreeing on the arguments, the precondition holding, the two programs end with equal results and unchanged arguments. -/
theorem algebraic [Cert.Pre_finite.Facts] : Cert.algebraic_KernelIdeal_ReferenceIdeal_pre_finite := by
  intro m g m' g' hpre hagree
  refine ⟨fun c => (Cert.KernelIdeal.Hand.inputsOf m c).out, Cert.KernelIdeal.Hand.run_value m g,
    (θ_run Cert.ReferenceIdeal.defs _ _).mono (fun r h c => ⟨(h c).1.trans ?_, (h c).2⟩) (Cert.ReferenceIdeal.Hand.run_value m' g')⟩
  obtain ⟨h0, h3, h4, h5, h6, h7, h8, h9⟩ := Cert.Pre_finite.Hand.read (hpre c)
  obtain ⟨e0, e1, e2, e3, e4, e5, e6, e7, e8, e9, e10, e11, e12, e13, e14⟩ := hagree c
  rw [e0, e3, e4, e5, e6, e7, e8, e9, e10, e11, e12, e13, e14]
  exact (Cert.KernelIdeal.Hand.out_eq_net m c h0 h3 h4 h5 h6 h7 h8 h9).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Claims
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts,
  Cert.Pre_finite.Gen.facts, frame_kernel, frame_kernelIdeal, frame_kernelIdeal_finite, frame_referenceIdeal,
  frame_referenceIdeal_finite, preserves, algebraic⟩

end Cert.Proof

end
